-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .bf16 0x3DD1#16 (((Real.sqrt 96)⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S2x256x1024 1 × IVec S1024x64 1 × IVec S64x1024 1 × IVec S1024x1024 1 × IVec S1024x512 1 × IVec S1024x32 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  let main_v6 : FVec F S64x1024 .f32 := Host.absf main_arg2
  let main_cst_1 : FVec F S_ .f32 := constant S_ .f32 0x7F800000#32
  let main_v7 : FVec F S64x1024 .f32 := broadcastInDim S64x1024 ![] bcast_S_S64x1024 main_cst_1
  let main_v8 : IVec S64x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024x32 .f32 := Host.absf main_arg6
  let main_cst_4 : FVec F S_ .f32 := constant S_ .f32 0x7F800000#32
  let main_v16 : FVec F S1024x32 .f32 := broadcastInDim S1024x32 ![] bcast_S_S1024x32 main_cst_4
  let main_v17 : IVec S1024x32 1 := cmpf .olt main_v15 main_v16
  (main_v2, main_v5, main_v8, main_v11, main_v14, main_v17)
-- ==== Pre_scores_finite_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x128 : S_.BroadcastsInDim S1024x128 (![] : Fin 0 → Fin S1024x128.rank)
  bcast_S_S128x1024 : S_.BroadcastsInDim S128x1024 (![] : Fin 0 → Fin S128x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S2x256x1024 1 × IVec S1024x128 1 × IVec S128x1024 1 × IVec S1024x1024 1 × IVec S1024x512 1 × IVec S1024x32 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x128 .f32 := Host.absf main_arg1
  let main_cst_0 : FVec F S_ .f32 := constant S_ .f32 0x7F800000#32
  let main_v4 : FVec F S1024x128 .f32 := broadcastInDim S1024x128 ![] bcast_S_S1024x128 main_cst_0
  let main_v5 : IVec S1024x128 1 := cmpf .olt main_v3 main_v4
  let main_v6 : FVec F S128x1024 .f32 := Host.absf main_arg2
  let main_cst_1 : FVec F S_ .f32 := constant S_ .f32 0x7F800000#32
  let main_v7 : FVec F S128x1024 .f32 := broadcastInDim S128x1024 ![] bcast_S_S128x1024 main_cst_1
  let main_v8 : IVec S128x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024x32 .f32 := Host.absf main_arg6
  let main_cst_4 : FVec F S_ .f32 := constant S_ .f32 0x7F800000#32
  let main_v16 : FVec F S1024x32 .f32 := broadcastInDim S1024x32 ![] bcast_S_S1024x32 main_cst_4
  let main_v17 : IVec S1024x32 1 := cmpf .olt main_v15 main_v16
  (main_v2, main_v5, main_v8, main_v11, main_v14, main_v17)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S1024x96 : Shape := ⟨2, ![1024, 96]⟩
abbrev S128x1024 : Shape := ⟨2, ![128, 1024]⟩
abbrev S512x64 : Shape := ⟨2, ![512, 64]⟩
abbrev S128x512 : Shape := ⟨2, ![128, 512]⟩
abbrev S512x1024 : Shape := ⟨2, ![512, 1024]⟩
abbrev S2 : Shape := ⟨1, ![2]⟩
abbrev S8 : Shape := ⟨1, ![8]⟩
abbrev S_ : Shape := ⟨0, ![]⟩
abbrev S1 : Shape := ⟨1, ![1]⟩
abbrev S512x512 : Shape := ⟨2, ![512, 512]⟩
abbrev S1024x256 : Shape := ⟨2, ![1024, 256]⟩
abbrev S512x256 : Shape := ⟨2, ![512, 256]⟩
abbrev S512x32 : Shape := ⟨2, ![512, 32]⟩
abbrev S64x512 : Shape := ⟨2, ![64, 512]⟩
abbrev S256x32 : Shape := ⟨2, ![256, 32]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S256x1024 : Shape := ⟨2, ![256, 1024]⟩
abbrev S1x256x1024 : Shape := ⟨3, ![1, 256, 1024]⟩

abbrev nBuf : Space → Nat
  | .hbm => 17
  | .vmem => 11
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .bf16⟩
  | .hbm, ⟨9, _⟩ => ⟨S1024x96, .f32⟩
  | .hbm, ⟨10, _⟩ => ⟨S1024x96, .bf16⟩
  | .hbm, ⟨11, _⟩ => ⟨S128x1024, .f32⟩
  | .hbm, ⟨12, _⟩ => ⟨S128x1024, .bf16⟩
  | .hbm, ⟨13, _⟩ => ⟨S1024x1024, .bf16⟩
  | .hbm, ⟨14, _⟩ => ⟨S1024x512, .bf16⟩
  | .hbm, ⟨15, _⟩ => ⟨S1024x1024, .bf16⟩
  | .hbm, ⟨16, _⟩ => ⟨S2x256x1024, .bf16⟩
  | .local _ .vmem, ⟨0, _⟩ => ⟨S2x256x1024, .bf16⟩
  | .local _ .vmem, ⟨1, _⟩ => ⟨S1024x96, .bf16⟩
  | .local _ .vmem, ⟨2, _⟩ => ⟨S128x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x1024, .bf16⟩
  | .local _ .vmem, ⟨6, _⟩ => ⟨S512x64, .bf16⟩
  | .local _ .vmem, ⟨7, _⟩ => ⟨S512x64, .bf16⟩
  | .local _ .vmem, ⟨8, _⟩ => ⟨S128x512, .bf16⟩
  | .local _ .vmem, ⟨9, _⟩ => ⟨S512x1024, .bf16⟩
  | .local _ .vmem, ⟨10, _⟩ => ⟨S2x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_cond1 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_19 : BitVec 32 := 0#32
  let v35 : BitVec 1 := Scalar.cmpi .eq v5 c0_i32_19
  let v36 : BitVec 32 := Scalar.extui v35
  let c0_i32_20 : BitVec 32 := 0#32
  let v37 : BitVec 1 := Scalar.cmpi .ne v36 c0_i32_20
  v37

def k0_dev3 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v81 : BitVec 32 := Scalar.muli v9 c8_i32_68
  let v82 : BitVec 32 := Scalar.addi c0_i32_69 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v83 : BitVec 32 := Scalar.muli v5 c4_i32_70
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v85 : BitVec 32 := Scalar.muli v8 c1_i32_71
  let v86 : BitVec 32 := Scalar.addi v84 v85
  v86.toNat
def k0_dev4 (d0 : Dev nD) : Nat :=
  let c0_i32_75 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_74 : BitVec 32 := 8#32
  let v91 : BitVec 32 := Scalar.muli v9 c8_i32_74
  let v92 : BitVec 32 := Scalar.addi c0_i32_75 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v93 : BitVec 32 := Scalar.muli v5 c4_i32_76
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v95 : BitVec 32 := Scalar.muli v8 c1_i32_77
  let v96 : BitVec 32 := Scalar.addi v94 v95
  v96.toNat
def k0_dev5 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v197 : BitVec 32 := Scalar.muli v2 c8_i32_135
  let v198 : BitVec 32 := Scalar.addi c0_i32_136 v197
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_137 : BitVec 32 := 4#32
  let v199 : BitVec 32 := Scalar.muli v10 c4_i32_137
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v201 : BitVec 32 := Scalar.muli v8 c1_i32_138
  let v202 : BitVec 32 := Scalar.addi v200 v201
  v202.toNat
def k0_dev6 (d0 : Dev nD) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v255 : BitVec 32 := Scalar.muli v2 c8_i32_155
  let v256 : BitVec 32 := Scalar.addi c0_i32_156 v255
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_157 : BitVec 32 := 4#32
  let v257 : BitVec 32 := Scalar.muli v10 c4_i32_157
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v259 : BitVec 32 := Scalar.muli v8 c1_i32_158
  let v260 : BitVec 32 := Scalar.addi v258 v259
  v260.toNat
def k0_dev7 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v313 : BitVec 32 := Scalar.muli v2 c8_i32_175
  let v314 : BitVec 32 := Scalar.addi c0_i32_176 v313
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_177 : BitVec 32 := 4#32
  let v315 : BitVec 32 := Scalar.muli v10 c4_i32_177
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v317 : BitVec 32 := Scalar.muli v8 c1_i32_178
  let v318 : BitVec 32 := Scalar.addi v316 v317
  v318.toNat
def k0_dev8 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v371 : BitVec 32 := Scalar.muli v2 c8_i32_193
  let v372 : BitVec 32 := Scalar.addi c0_i32_194 v371
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_195 : BitVec 32 := 4#32
  let v373 : BitVec 32 := Scalar.muli v10 c4_i32_195
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v375 : BitVec 32 := Scalar.muli v8 c1_i32_196
  let v376 : BitVec 32 := Scalar.addi v374 v375
  v376.toNat
def k0_dev9 (d0 : Dev nD) : Nat :=
  let c0_i32_215 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_214 : BitVec 32 := 8#32
  let v431 : BitVec 32 := Scalar.muli v2 c8_i32_214
  let v432 : BitVec 32 := Scalar.addi c0_i32_215 v431
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_216 : BitVec 32 := 4#32
  let v433 : BitVec 32 := Scalar.muli v10 c4_i32_216
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v435 : BitVec 32 := Scalar.muli v8 c1_i32_217
  let v436 : BitVec 32 := Scalar.addi v434 v435
  v436.toNat
def k0_dev10 (d0 : Dev nD) : Nat :=
  let c0_i32_236 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_235 : BitVec 32 := 8#32
  let v489 : BitVec 32 := Scalar.muli v2 c8_i32_235
  let v490 : BitVec 32 := Scalar.addi c0_i32_236 v489
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_237 : BitVec 32 := 4#32
  let v491 : BitVec 32 := Scalar.muli v10 c4_i32_237
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v493 : BitVec 32 := Scalar.muli v8 c1_i32_238
  let v494 : BitVec 32 := Scalar.addi v492 v493
  v494.toNat
def k0_dev11 (d0 : Dev nD) : Nat :=
  let c0_i32_257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_256 : BitVec 32 := 8#32
  let v547 : BitVec 32 := Scalar.muli v2 c8_i32_256
  let v548 : BitVec 32 := Scalar.addi c0_i32_257 v547
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_258 : BitVec 32 := 4#32
  let v549 : BitVec 32 := Scalar.muli v10 c4_i32_258
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v551 : BitVec 32 := Scalar.muli v8 c1_i32_259
  let v552 : BitVec 32 := Scalar.addi v550 v551
  v552.toNat
def k0_dev12 (d0 : Dev nD) : Nat :=
  let c0_i32_278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_277 : BitVec 32 := 8#32
  let v605 : BitVec 32 := Scalar.muli v2 c8_i32_277
  let v606 : BitVec 32 := Scalar.addi c0_i32_278 v605
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_279 : BitVec 32 := 4#32
  let v607 : BitVec 32 := Scalar.muli v10 c4_i32_279
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v609 : BitVec 32 := Scalar.muli v8 c1_i32_280
  let v610 : BitVec 32 := Scalar.addi v608 v609
  v610.toNat
def k0_cond2 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_21 : BitVec 32 := 1#32
  let v38 : BitVec 1 := Scalar.cmpi .eq v5 c1_i32_21
  let v39 : BitVec 32 := Scalar.extui v38
  let c0_i32_22 : BitVec 32 := 0#32
  let v40 : BitVec 1 := Scalar.cmpi .ne v39 c0_i32_22
  v40

def k0_dev13 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v81 : BitVec 32 := Scalar.muli v9 c8_i32_68
  let v82 : BitVec 32 := Scalar.addi c0_i32_69 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v83 : BitVec 32 := Scalar.muli v5 c4_i32_70
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v85 : BitVec 32 := Scalar.muli v8 c1_i32_71
  let v86 : BitVec 32 := Scalar.addi v84 v85
  v86.toNat
def k0_dev14 (d0 : Dev nD) : Nat :=
  let c0_i32_75 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_74 : BitVec 32 := 8#32
  let v91 : BitVec 32 := Scalar.muli v9 c8_i32_74
  let v92 : BitVec 32 := Scalar.addi c0_i32_75 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v93 : BitVec 32 := Scalar.muli v5 c4_i32_76
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v95 : BitVec 32 := Scalar.muli v8 c1_i32_77
  let v96 : BitVec 32 := Scalar.addi v94 v95
  v96.toNat
def k0_dev15 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v197 : BitVec 32 := Scalar.muli v2 c8_i32_133
  let v198 : BitVec 32 := Scalar.addi c0_i32_134 v197
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_135 : BitVec 32 := 4#32
  let v199 : BitVec 32 := Scalar.muli v10 c4_i32_135
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v201 : BitVec 32 := Scalar.muli v8 c1_i32_136
  let v202 : BitVec 32 := Scalar.addi v200 v201
  v202.toNat
def k0_dev16 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v255 : BitVec 32 := Scalar.muli v2 c8_i32_153
  let v256 : BitVec 32 := Scalar.addi c0_i32_154 v255
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_155 : BitVec 32 := 4#32
  let v257 : BitVec 32 := Scalar.muli v10 c4_i32_155
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v259 : BitVec 32 := Scalar.muli v8 c1_i32_156
  let v260 : BitVec 32 := Scalar.addi v258 v259
  v260.toNat
def k0_dev17 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v313 : BitVec 32 := Scalar.muli v2 c8_i32_172
  let v314 : BitVec 32 := Scalar.addi c0_i32_173 v313
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_174 : BitVec 32 := 4#32
  let v315 : BitVec 32 := Scalar.muli v10 c4_i32_174
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v317 : BitVec 32 := Scalar.muli v8 c1_i32_175
  let v318 : BitVec 32 := Scalar.addi v316 v317
  v318.toNat
def k0_dev18 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v371 : BitVec 32 := Scalar.muli v2 c8_i32_190
  let v372 : BitVec 32 := Scalar.addi c0_i32_191 v371
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_192 : BitVec 32 := 4#32
  let v373 : BitVec 32 := Scalar.muli v10 c4_i32_192
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v375 : BitVec 32 := Scalar.muli v8 c1_i32_193
  let v376 : BitVec 32 := Scalar.addi v374 v375
  v376.toNat
def k0_dev19 (d0 : Dev nD) : Nat :=
  let c0_i32_212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_211 : BitVec 32 := 8#32
  let v431 : BitVec 32 := Scalar.muli v2 c8_i32_211
  let v432 : BitVec 32 := Scalar.addi c0_i32_212 v431
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_213 : BitVec 32 := 4#32
  let v433 : BitVec 32 := Scalar.muli v10 c4_i32_213
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v435 : BitVec 32 := Scalar.muli v8 c1_i32_214
  let v436 : BitVec 32 := Scalar.addi v434 v435
  v436.toNat
def k0_dev20 (d0 : Dev nD) : Nat :=
  let c0_i32_232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_231 : BitVec 32 := 8#32
  let v489 : BitVec 32 := Scalar.muli v2 c8_i32_231
  let v490 : BitVec 32 := Scalar.addi c0_i32_232 v489
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_233 : BitVec 32 := 4#32
  let v491 : BitVec 32 := Scalar.muli v10 c4_i32_233
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v493 : BitVec 32 := Scalar.muli v8 c1_i32_234
  let v494 : BitVec 32 := Scalar.addi v492 v493
  v494.toNat
def k0_dev21 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v547 : BitVec 32 := Scalar.muli v2 c8_i32_252
  let v548 : BitVec 32 := Scalar.addi c0_i32_253 v547
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_254 : BitVec 32 := 4#32
  let v549 : BitVec 32 := Scalar.muli v10 c4_i32_254
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v551 : BitVec 32 := Scalar.muli v8 c1_i32_255
  let v552 : BitVec 32 := Scalar.addi v550 v551
  v552.toNat
def k0_dev22 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v605 : BitVec 32 := Scalar.muli v2 c8_i32_273
  let v606 : BitVec 32 := Scalar.addi c0_i32_274 v605
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_275 : BitVec 32 := 4#32
  let v607 : BitVec 32 := Scalar.muli v10 c4_i32_275
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v609 : BitVec 32 := Scalar.muli v8 c1_i32_276
  let v610 : BitVec 32 := Scalar.addi v608 v609
  v610.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 43
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S_, .f32⟩
  | .hbm, ⟨25, _⟩ => ⟨S2x16x256x256, .f32⟩
  | .hbm, ⟨26, _⟩ => ⟨S2x16x256x256, .f32⟩
  | .hbm, ⟨27, _⟩ => ⟨S_, .f32⟩
  | .hbm, ⟨28, _⟩ => ⟨S2x16x256, .f32⟩
  | .hbm, ⟨29, _⟩ => ⟨S2x16x256x1, .f32⟩
  | .hbm, ⟨30, _⟩ => ⟨S2x16x256x256, .f32⟩
  | .hbm, ⟨31, _⟩ => ⟨S2x16x256x256, .f32⟩
  | .hbm, ⟨32, _⟩ => ⟨S2x16x256x256, .f32⟩
  | .hbm, ⟨33, _⟩ => ⟨S_, .f32⟩
  | .hbm, ⟨34, _⟩ => ⟨S2x16x256, .f32⟩
  | .hbm, ⟨35, _⟩ => ⟨S2x16x256x1, .f32⟩
  | .hbm, ⟨36, _⟩ => ⟨S2x16x256x256, .f32⟩
  | .hbm, ⟨37, _⟩ => ⟨S2x16x256x256, .f32⟩
  | .hbm, ⟨38, _⟩ => ⟨S2x16x64x256, .f32⟩
  | .hbm, ⟨39, _⟩ => ⟨S2x256x16x64, .f32⟩
  | .hbm, ⟨40, _⟩ => ⟨S2x256x1024, .f32⟩
  | .hbm, ⟨41, _⟩ => ⟨S2x256x1024, .f32⟩
  | .hbm, ⟨42, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Body.lean ====
/- The kernel's body as one short program over the half `h` of the heads a device computes: the text
   prints the two branches of the conditional in full, head by head; here a branch is a loop over the
   eight pairs of heads. The printed body is this program by definitional unfolding (`body_eq`). -/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Run

open Idealize.ShloMosaic Idealize.ShloMosaic.TcCoe Idealize.SL.Sem
open Cert.KernelIdeal.Gen

variable {F : FTy → Type} [FloatOps F] [Named F]

/-! ## The buffers -/

abbrev xM : Memref sig .tc .vmem S2x256x1024 .bf16 := Memref.whole cc0_stg0_0
abbrev dkvM : Memref sig .tc .vmem S1024x96 .bf16 := Memref.whole cc0_stg1_0
abbrev ukvM : Memref sig .tc .vmem S128x1024 .bf16 := Memref.whole cc0_stg2_0
abbrev wqM : Memref sig .tc .vmem S1024x1024 .bf16 := Memref.whole cc0_stg3_0
abbrev wqrM : Memref sig .tc .vmem S1024x512 .bf16 := Memref.whole cc0_stg4_0
abbrev woM : Memref sig .tc .vmem S1024x1024 .bf16 := Memref.whole cc0_stg5_0
abbrev resM : Memref sig .tc .hbm S2x256x1024 .bf16 := Memref.whole main_v9
abbrev cM : Memref sig .tc .vmem S512x64 .bf16 := Memref.whole cc0_scratch0
abbrev crM : Memref sig .tc .vmem S512x64 .bf16 := Memref.whole cc0_scratch1
abbrev urM : Memref sig .tc .vmem S128x512 .bf16 := Memref.whole cc0_scratch2
abbrev oM : Memref sig .tc .vmem S512x1024 .bf16 := Memref.whole cc0_scratch3
abbrev ovM : Memref sig .tc .vmem S2x256x1024 .bf16 := Memref.whole cc0_scratch4

theorem whole_of (b : Ref sig .tc) : (Memref.whole b : Memref sig .tc b.space b.ty.shape b.ty.elt).IsWhole :=
  Memref.isWhole_whole _

/-! ## The semaphores -/

/-- Completion of the sending side of the exchange along the first axis: the latent, the up-projection. -/
def sendX (i : Fin 2) : DmaSem sig := (⟨6 + i.val, by have := i.isLt; omega⟩ : Fin 28)
/-- Arrival of the exchange along the first axis. -/
def recvX (i : Fin 2) : DmaSem sig := (⟨8 + i.val, by have := i.isLt; omega⟩ : Fin 28)
/-- Completion of the sending side of a pair of heads. -/
def sendY (j : Fin 8) : DmaSem sig := (⟨10 + j.val, by have := j.isLt; omega⟩ : Fin 28)
/-- Arrival of a pair of heads. -/
def recvY (j : Fin 8) : DmaSem sig := (⟨18 + j.val, by have := j.isLt; omega⟩ : Fin 28)
/-- Completion of a batch's copy to the result. -/
def outS (b : Fin 2) : DmaSem sig := (⟨26 + b.val, by have := b.isLt; omega⟩ : Fin 28)
/-- The runtime's barrier semaphore. -/
abbrev barS : Sem sig := (SemArray.scalar (sig.barrier 0 rfl) : Sems sig S_).sem

/-! ## The rectangles -/

/-- Half `h` of the up-projection's columns. -/
abbrev ukvOff (h : Fin 2) : Fin 2 → Nat := ![0, h.val * 512]
theorem ukv_inb (h : Fin 2) : ∀ a, ukvOff h a + S128x512.size a ≤ S128x1024.size a := by
  revert h; decide
abbrev ukvR (h : Fin 2) : Rect S128x1024 := Rect.unit (ukvOff h) S128x512.size (ukv_inb h)
theorem ukv_words (h : Fin 2) : (ukvR h).WholeWords (EltTy.packing .bf16) := by
  revert h; decide
abbrev wqOff (h : Fin 2) : Fin 2 → Nat := ![0, h.val * 512]
theorem wq_inb (h : Fin 2) : ∀ a, wqOff h a + S1024x512.size a ≤ S1024x1024.size a := by
  revert h; decide
abbrev wqR (h : Fin 2) : Rect S1024x1024 := Rect.unit (wqOff h) S1024x512.size (wq_inb h)
abbrev wqrOff (h : Fin 2) : Fin 2 → Nat := ![0, h.val * 256]
theorem wqr_inb (h : Fin 2) : ∀ a, wqrOff h a + S1024x256.size a ≤ S1024x512.size a := by
  revert h; decide
abbrev wqrR (h : Fin 2) : Rect S1024x512 := Rect.unit (wqrOff h) S1024x256.size (wqr_inb h)

/-- The pair `j` of heads of half `h`: batch `j / 4`, heads `2 (j % 4)` and the next. -/
abbrev pairOff (h : Fin 2) (j : Fin 8) : Fin 2 → Nat := ![j.val / 4 * 256, h.val * 512 + j.val % 4 * 128]
theorem pair_inb (h : Fin 2) (j : Fin 8) : ∀ a, pairOff h j a + S256x128.size a ≤ S512x1024.size a := by
  revert h j; decide
abbrev pairR (h : Fin 2) (j : Fin 8) : Rect S512x1024 := Rect.unit (pairOff h j) S256x128.size (pair_inb h j)
theorem pair_words (h : Fin 2) (j : Fin 8) : (pairR h j).WholeWords (EltTy.packing .bf16) := by
  revert h j; decide

/-- The head `e` of that pair. -/
abbrev headOff (h : Fin 2) (j : Fin 8) (e : Fin 2) : Fin 2 → Nat :=
  ![j.val / 4 * 256, h.val * 512 + j.val % 4 * 128 + e.val * 64]
theorem head_inb (h : Fin 2) (j : Fin 8) (e : Fin 2) : ∀ a, headOff h j e a + S256x64.size a ≤ S512x1024.size a := by
  revert h j e; decide
abbrev headR (h : Fin 2) (j : Fin 8) (e : Fin 2) : Rect S512x1024 :=
  Rect.unit (headOff h j e) S256x64.size (head_inb h j e)
theorem head_packed (h : Fin 2) (j : Fin 8) (e : Fin 2) : (headR h j e).PackedRows (EltTy.packing .bf16) := by
  revert h j e; decide

/-- The rows of batch `b` of the attention's output. -/
abbrev rowsOff (b : Fin 2) : Fin 2 → Nat := ![b.val * 256, 0]
theorem rows_inb (b : Fin 2) : ∀ a, rowsOff b a + S256x1024.size a ≤ S512x1024.size a := by
  revert b; decide
abbrev rowsR (b : Fin 2) : Rect S512x1024 := Rect.unit (rowsOff b) S256x1024.size (rows_inb b)
/-- Batch `b` of the result. -/
abbrev batOff (b : Fin 2) : Fin 3 → Nat := ![b.val, 0, 0]
theorem bat_inb (b : Fin 2) : ∀ a, batOff b a + S1x256x1024.size a ≤ S2x256x1024.size a := by
  revert b; decide
abbrev batR (b : Fin 2) : Rect S2x256x1024 := Rect.unit (batOff b) S1x256x1024.size (bat_inb b)
theorem bat_packed (b : Fin 2) : (batR b).PackedRows (EltTy.packing .bf16) := by
  revert b; decide
theorem bat_words (b : Fin 2) : (batR b).WholeWords (EltTy.packing .bf16) := by
  revert b; decide

abbrev ukvS (h : Fin 2) : Memref sig .tc .vmem S128x512 .bf16 := ukvM.slice (ukvR h) (fun _ => rfl)
abbrev pairS (h : Fin 2) (j : Fin 8) : Memref sig .tc .vmem S256x128 .bf16 := oM.slice (pairR h j) (fun _ => rfl)
abbrev ovS (b : Fin 2) : Memref sig .tc .vmem S256x1024 .bf16 :=
  (ovM.slice (batR b) (fun _ => rfl) : Memref sig .tc .vmem S1x256x1024 .bf16).squeeze S256x1024 squeezes_S1x256x1024_S256x1024
abbrev resS (b : Fin 2) : Memref sig .tc .hbm S256x1024 .bf16 :=
  (resM.slice (batR b) (fun _ => rfl) : Memref sig .tc .hbm S1x256x1024 .bf16).squeeze S256x1024 squeezes_S1x256x1024_S256x1024

/-! ## The value a head stores -/

theorem q_slices (b : Fin 2) (i : Fin 8) : S512x512.Slices ![b.val * 256, i.val * 64] S256x64 := by
  revert b i; decide
theorem qr_slices (b : Fin 2) (i : Fin 8) : S512x256.Slices ![b.val * 256, i.val * 32] S256x32 := by
  revert b i; decide
theorem kr_slices (b : Fin 2) : S512x32.Slices ![b.val * 256, 0] S256x32 := by
  revert b; decide

/-- The exponentials of the scores of head `i` of batch `b`. -/
def expScores (q : FVec F S512x512 .f32) (qr : FVec F S512x256 .f32) (k : FVec F S512x512 .f32)
    (kr : FVec F S512x32 .f32) (b : Fin 2) (i : Fin 8) : FVec F S256x256 .bf16 :=
  exp (truncf .bf16 (addf
    (matmul dot_S256x64_S256x64_S256x256_1_1_0_0_n_n none
      (truncf .bf16 (extractStridedSlice S256x64 ![b.val * 256, i.val * 64] q (q_slices b i)) bitsLt_bf16_f32)
      (truncf .bf16 (extractStridedSlice S256x64 ![b.val * 256, i.val * 64] k (q_slices b i)) bitsLt_bf16_f32)
      (constant S256x256 .f32 0x00000000#32))
    (matmul dot_S256x32_S256x32_S256x256_1_1_0_0_n_n none
      (truncf .bf16 (extractStridedSlice S256x32 ![b.val * 256, i.val * 32] qr (qr_slices b i)) bitsLt_bf16_f32)
      (truncf .bf16 (extractStridedSlice S256x32 ![b.val * 256, 0] kr (kr_slices b)) bitsLt_bf16_f32)
      (constant S256x256 .f32 0x00000000#32))) bitsLt_bf16_f32)

/-- Head `i` of batch `b`: its exponentials against the values, divided by their row sums. -/
def headVal (q : FVec F S512x512 .f32) (qr : FVec F S512x256 .f32) (k v : FVec F S512x512 .f32)
    (kr : FVec F S512x32 .f32) (b : Fin 2) (i : Fin 8) : FVec F S256x64 .bf16 :=
  shapeCast S256x64 (truncf .bf16 (divf
    (matmul dot_S256x256_S256x64_S256x64_1_0_0_1_n_n none (expScores q qr k kr b i)
      (truncf .bf16 (extractStridedSlice S256x64 ![b.val * 256, i.val * 64] v (q_slices b i)) bitsLt_bf16_f32)
      (constant S256x64 .f32 0x00000000#32))
    (broadcastTo S256x64 (shapeCast S256x1 (multiReduction .add [1] S256
      (extf .f32 (expScores q qr k kr b i) bitsLt_bf16_f32) 0x00000000#32 reduces_S256x256_S256 (.inl rfl) rfl)
      shapeCasts_S256_S256x1) broadcasts_S256x1_S256x64)) bitsLt_bf16_f32) shapeCasts_S256x64_S256x64

/-! ## The program -/

/-- A loop over a list. -/
def each {F : FTy → Type} {α : Type} : List α → (α → Prog (TpuEff nD τ sig (Elt F) Λ₀ .tc) PUnit) →
    Prog (TpuEff nD τ sig (Elt F) Λ₀ .tc) PUnit
  | [], _ => pure ⟨⟩
  | a :: l, f => f a >>= fun _ => each l f

abbrev BodyProg (F : FTy → Type) := Prog (TpuEff nD τ sig (Elt F) Λ₀ .tc)

/-- One pair of heads: each stored, then the pair sent to the peer `dst` of the second axis. -/
def pairStep (h : Fin 2) (dst : Fin 8 → Dev nD) (vals : Fin 8 → Fin 2 → FVec F S256x64 .bf16) (j : Fin 8) :
    BodyProg F PUnit := do
  let _ : Vec F S256x64 .bf16 ← Prog.lift (.load oM (headR h j 0).toLoadRect (View.loadsAt_vmem h_S256x64))
  Prog.lift (.store oM (headR h j 0) (vals j 0) Finset.univ (View.stores_vmem h_S256x64 ((whole_of cc0_scratch3).storeExact_slice rfl _ (head_packed h j 0)) (fun _ => rfl)) (.inl rfl))
  let _ : Vec F S256x64 .bf16 ← Prog.lift (.load oM (headR h j 1).toLoadRect (View.loadsAt_vmem h_S256x64))
  Prog.lift (.store oM (headR h j 1) (vals j 1) Finset.univ (View.stores_vmem h_S256x64 ((whole_of cc0_scratch3).storeExact_slice rfl _ (head_packed h j 1)) (fun _ => rfl)) (.inl rfl))
  Prog.lift (.enqueueDma (pairS h j) (.remote (Dev.tc (dst j)) (pairS h j) (.dma (sendY j))) (.dma (recvY j)) ((whole_of cc0_scratch3).wordExact_slice rfl _ (pair_words h j)) ((whole_of cc0_scratch3).wordExact_slice rfl _ (pair_words h j)) ⟨⟨rfl, Or.inl rfl⟩, trivial⟩)

/-- The two waits of a pair: its own copy gone, the peer's arrived. -/
def pairWait (h : Fin 2) (j : Fin 8) : BodyProg F PUnit := do
  Prog.lift (.waitDma2 (sendY j) (pairS h j) (pairS h j) ((whole_of cc0_scratch3).wordExact_slice rfl _ (pair_words h j)) ((whole_of cc0_scratch3).wordExact_slice rfl _ (pair_words h j)))
  Prog.lift (.waitDma2 (recvY j) (pairS h j) (pairS h j) ((whole_of cc0_scratch3).wordExact_slice rfl _ (pair_words h j)) ((whole_of cc0_scratch3).wordExact_slice rfl _ (pair_words h j)))

/-- The head of half a pair. -/
abbrev headIx (j : Fin 8) (e : Fin 2) : Fin 8 := ⟨j.val % 4 * 2 + e.val, by have := e.isLt; omega⟩
/-- The batch of a pair. -/
abbrev batIx (j : Fin 8) : Fin 2 := ⟨j.val / 4, by have := j.isLt; omega⟩

/-- What a device stores, from what it loads: the queries, the keys and the values, then head by head. -/
def headVals (x : FVec F S512x1024 .bf16) (dkv : FVec F S1024x96 .bf16) (wq : Vec F S1024x512 .bf16)
    (wqr : Vec F S1024x256 .bf16) (c cr : Vec F S512x64 .bf16) (u ur : Vec F S128x512 .bf16)
    (j : Fin 8) (e : Fin 2) : FVec F S256x64 .bf16 :=
  headVal (k0_pay3 x wq) (k0_pay4 x wqr) (k0_pay8 c cr ur (k0_pay7 u)) (k0_pay9 c cr (k0_pay6 u) ur)
    (k0_pay5 x dkv) (batIx j) (headIx j e)

/-- The pairs. -/
abbrev pairs : List (Fin 8) := [0, 1, 2, 3, 4, 5, 6, 7]

/-- The exchange along the first axis. -/
def exchange (h : Fin 2) (dx0 dx1 : Dev nD) : BodyProg F PUnit := do
  semWaitWord barS 2#32
  Prog.lift (.enqueueDma cM (.remote (Dev.tc dx0) crM (.dma (sendX 0))) (.dma (recvX 0)) (whole_of cc0_scratch0).wordExact (whole_of cc0_scratch1).wordExact ⟨⟨rfl, Or.inl rfl⟩, trivial⟩)
  Prog.lift (.enqueueDma (ukvS h) (.remote (Dev.tc dx1) urM (.dma (sendX 1))) (.dma (recvX 1)) ((whole_of cc0_stg2_0).wordExact_slice rfl _ (ukv_words h)) (whole_of cc0_scratch2).wordExact ⟨⟨rfl, Or.inl rfl⟩, trivial⟩)

/-- Its waits. -/
def exchangeWait (h : Fin 2) : BodyProg F PUnit := do
  Prog.lift (.waitDma2 (sendX 0) crM cM (whole_of cc0_scratch1).wordExact (whole_of cc0_scratch0).wordExact)
  Prog.lift (.waitDma2 (recvX 0) cM crM (whole_of cc0_scratch0).wordExact (whole_of cc0_scratch1).wordExact)
  Prog.lift (.waitDma2 (sendX 1) urM (ukvS h) (whole_of cc0_scratch2).wordExact ((whole_of cc0_stg2_0).wordExact_slice rfl _ (ukv_words h)))
  Prog.lift (.waitDma2 (recvX 1) (ukvS h) urM ((whole_of cc0_stg2_0).wordExact_slice rfl _ (ukv_words h)) (whole_of cc0_scratch2).wordExact)

/-- A branch: the exchange, the heads of half `h`, the waits for the peer's heads. -/
def half (h : Fin 2) (dx0 dx1 : Dev nD) (dst : Fin 8 → Dev nD) (x : FVec F S512x1024 .bf16)
    (dkv : FVec F S1024x96 .bf16) : BodyProg F PUnit := do
  exchange h dx0 dx1
  let wq : Vec F S1024x512 .bf16 ← Prog.lift (.load wqM (wqR h).toLoadRect (View.loadsAt_vmem h_S1024x512))
  let wqr : Vec F S1024x256 .bf16 ← Prog.lift (.load wqrM (wqrR h).toLoadRect (View.loadsAt_vmem h_S1024x256))
  exchangeWait h
  let c : Vec F S512x64 .bf16 ← Prog.lift (.load cM (Rect.unit (s := S512x64) ![0, 0] S512x64.size inb_S512x64_S512x64_0_0).toLoadRect (View.loadsAt_vmem h_S512x64))
  let cr : Vec F S512x64 .bf16 ← Prog.lift (.load crM (Rect.unit (s := S512x64) ![0, 0] S512x64.size inb_S512x64_S512x64_0_0).toLoadRect (View.loadsAt_vmem h_S512x64))
  let u : Vec F S128x512 .bf16 ← Prog.lift (.load ukvM (ukvR h).toLoadRect (View.loadsAt_vmem h_S128x512))
  let ur : Vec F S128x512 .bf16 ← Prog.lift (.load urM (Rect.unit (s := S128x512) ![0, 0] S128x512.size inb_S128x512_S128x512_0_0).toLoadRect (View.loadsAt_vmem h_S128x512))
  each pairs (pairStep h dst (headVals x dkv wq wqr c cr u ur))
  each pairs (pairWait h)

/-- Batch `b`'s output projection. -/
def outMul (b : Fin 2) : BodyProg F (FVec F S256x1024 .bf16) := do
  let o : Vec F S256x1024 .bf16 ← Prog.lift (.load oM (rowsR b).toLoadRect (View.loadsAt_vmem h_S256x1024))
  let w : Vec F S1024x1024 .bf16 ← Prog.lift (.load woM (Rect.unit (s := S1024x1024) ![0, 0] S1024x1024.size inb_S1024x1024_S1024x1024_0_0).toLoadRect (View.loadsAt_vmem h_S1024x1024))
  pure (k0_pay91 o w)

/-- Its store, and its copy to the result. -/
def outStep (b : Fin 2) (v : FVec F S256x1024 .bf16) : BodyProg F PUnit := do
  let _ : Vec F S1x256x1024 .bf16 ← Prog.lift (.load ovM (batR b).toLoadRect (View.loadsAt_vmem h_S1x256x1024))
  Prog.lift (.store ovM (batR b) (k0_pay1 v) Finset.univ (View.stores_vmem h_S1x256x1024 ((whole_of cc0_scratch4).storeExact_slice rfl _ (bat_packed b)) (fun _ => rfl)) (.inl rfl))
  Prog.lift (.enqueueDma (ovS b) (.here (resS b)) (.dma (outS b)) (((whole_of cc0_scratch4).wordExact_slice rfl _ (bat_words b)).reshape _ _) (((whole_of main_v9).wordExact_slice rfl _ (bat_words b)).reshape _ _) ⟨Or.inl rfl, trivial⟩)

/-- The wait for that copy. -/
def outWait (b : Fin 2) : BodyProg F PUnit :=
  Prog.lift (.waitDma2 (outS b) (ovS b) (resS b) (((whole_of cc0_scratch4).wordExact_slice rfl _ (bat_words b)).reshape _ _) (((whole_of main_v9).wordExact_slice rfl _ (bat_words b)).reshape _ _))

/-- The destinations of the pairs, as the first branch and the second compute them. -/
abbrev dst1 (d : Dev nD) (h : k0_cond1 d = 1#1) : Fin 8 → Dev nD :=
  ![⟨k0_dev5 d, k0_dev5_lt d h⟩, ⟨k0_dev6 d, k0_dev6_lt d h⟩, ⟨k0_dev7 d, k0_dev7_lt d h⟩, ⟨k0_dev8 d, k0_dev8_lt d h⟩,
    ⟨k0_dev9 d, k0_dev9_lt d h⟩, ⟨k0_dev10 d, k0_dev10_lt d h⟩, ⟨k0_dev11 d, k0_dev11_lt d h⟩, ⟨k0_dev12 d, k0_dev12_lt d h⟩]
abbrev dst2 (d : Dev nD) (h : k0_cond2 d = 1#1) : Fin 8 → Dev nD :=
  ![⟨k0_dev15 d, k0_dev15_lt d h⟩, ⟨k0_dev16 d, k0_dev16_lt d h⟩, ⟨k0_dev17 d, k0_dev17_lt d h⟩, ⟨k0_dev18 d, k0_dev18_lt d h⟩,
    ⟨k0_dev19 d, k0_dev19_lt d h⟩, ⟨k0_dev20 d, k0_dev20_lt d h⟩, ⟨k0_dev21 d, k0_dev21_lt d h⟩, ⟨k0_dev22 d, k0_dev22_lt d h⟩]

/-- From the latent `v` to the second batch's projection. -/
def middle (d0 : Dev nD) (x : FVec F S512x1024 .bf16) (dkv : FVec F S1024x96 .bf16) (v : FVec F S512x64 .bf16) :
    BodyProg F (FVec F S256x1024 .bf16) := do
  let _ : Vec F S512x64 .bf16 ← Prog.lift (.load cM (Rect.unit (s := S512x64) ![0, 0] S512x64.size inb_S512x64_S512x64_0_0).toLoadRect (View.loadsAt_vmem h_S512x64))
  Prog.lift (.store cM (Rect.unit (s := S512x64) ![0, 0] S512x64.size inb_S512x64_S512x64_0_0) (k0_pay89 v) Finset.univ (View.stores_vmem h_S512x64 ((whole_of cc0_scratch0).storeExact_slice rfl _ packedbf16_S512x64_S512x64_0_0) (fun _ => rfl)) (.inl rfl))
  if h1 : k0_cond1 d0 = 1#1 then do
    half 0 ⟨k0_dev3 d0, k0_dev3_lt d0 h1⟩ ⟨k0_dev4 d0, k0_dev4_lt d0 h1⟩ (dst1 d0 h1) x dkv
  else do
    pure ⟨⟩
  if h2 : k0_cond2 d0 = 1#1 then do
    half 1 ⟨k0_dev13 d0, k0_dev13_lt d0 h2⟩ ⟨k0_dev14 d0, k0_dev14_lt d0 h2⟩ (dst2 d0 h2) x dkv
  else do
    pure ⟨⟩
  let v0 ← outMul 0
  outStep 0 v0
  outMul 1

/-- The whole body. -/
def body : BodyProg F PUnit := do
  let d0 : Dev nD ← Prog.lift .deviceId
  semSignalWord (⟨k0_dev1 d0, k0_dev1_lt d0⟩ : Dev nD) barS 1#32
  semSignalWord (⟨k0_dev2 d0, k0_dev2_lt d0⟩ : Dev nD) barS 1#32
  let x : Vec F S2x256x1024 .bf16 ← Prog.lift (.load xM (Rect.unit (s := S2x256x1024) ![0, 0, 0] S2x256x1024.size inb_S2x256x1024_S2x256x1024_0_0_0).toLoadRect (View.loadsAt_vmem h_S2x256x1024))
  let dkv : Vec F S1024x96 .bf16 ← Prog.lift (.load dkvM (Rect.unit (s := S1024x96) ![0, 0] S1024x96.size inb_S1024x96_S1024x96_0_0).toLoadRect (View.loadsAt_vmem h_S1024x96))
  let v1 ← middle d0 (k0_pay86 x) (k0_pay87 dkv) (k0_pay88 x dkv)
  outStep 1 v1
  outWait 0
  outWait 1

set_option maxRecDepth 65536 in
set_option maxHeartbeats 8000000 in
/-- The printed body is the program above. -/
theorem body_eq (t : Fin cfg0.N) : bodyAt0 (F := F) t = body (F := F) := by
  obtain rfl : t = t0_0 := fin_N0 t
  rfl

end Cert.KernelIdeal.Run

end
-- ==== Proof.Protocol.lean ====
/- The kernel's protocol over its barrier, its exchange along the first axis and its exchange of head
   pairs along the second: the partners, what every buffer holds, which semaphore hands over what, and
   what each device owes when it starts. -/
module

public import proofs.«01_k».proof.Proof.Body
public import proofs.«01_k».proof.Proof.Gen.KernelIdeal.Frame
public import Idealize.ShloMosaic.Lib.StableHlo
public import Idealize.ShloMosaic.Lib.Tactic
public import Idealize.ShloMosaic.PureOps
public import Idealize.ShloMosaic.Lib.Pipeline.RegionTalk
public import Idealize.ShloMosaic.Harness.Basic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F] [Named F]

/-! ## The resources: the pipeline's rounds, and the kernel's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partners -/

/-- The partner along the first axis. -/
def xp (c : Dev nD) : Dev nD := ⟨(c.val + 8) % 16, Nat.mod_lt _ (by decide)⟩
/-- The partner along the second axis. -/
def yp (c : Dev nD) : Dev nD := ⟨(c.val / 8 * 8 + (c.val + 4) % 8) % 16, Nat.mod_lt _ (by decide)⟩
/-- The half of the heads a device computes: its place on the second axis. -/
def hf (c : Dev nD) : Fin 2 := ⟨c.val / 4 % 2, Nat.mod_lt _ (by decide)⟩

theorem xp_xp (c : Dev nD) : xp (xp c) = c := by revert c; decide
theorem yp_yp (c : Dev nD) : yp (yp c) = c := by revert c; decide
theorem hf_xp (c : Dev nD) : hf (xp c) = hf c := by revert c; decide
theorem hf_yp (c : Dev nD) : hf (yp c) ≠ hf c := by revert c; decide
theorem xp_yp (c : Dev nD) : xp (yp c) = yp (xp c) := by revert c; decide

def swapX : Dev nD ≃ Dev nD := ⟨xp, xp, xp_xp, xp_xp⟩
def swapY : Dev nD ≃ Dev nD := ⟨yp, yp, yp_yp, yp_yp⟩

theorem devX (c : Dev nD) {n : ℕ} (hn : n < nD)
    (h : n = (4 * ((c.val / 4) % 2) + (c.val % 4) + 8) - 8 * (c.val / 8)) : (⟨n, hn⟩ : Dev nD) = xp c := by
  apply Fin.ext; subst h; revert c; decide
theorem devY (c : Dev nD) {n : ℕ} (hn : n < nD)
    (h : n = (8 * (c.val / 8) + (c.val % 4) + 4) - 4 * ((c.val / 4) % 2)) : (⟨n, hn⟩ : Dev nD) = yp c := by
  apply Fin.ext; subst h; revert c; decide

/-! ## Which branch a device takes -/

theorem cond1_zero (c : Dev nD) (h : hf c = 0) : k0_cond1 c = 1#1 := by revert c; decide
theorem cond2_zero (c : Dev nD) (h : hf c = 0) : ¬ k0_cond2 c = 1#1 := by revert c; decide
theorem cond1_one (c : Dev nD) (h : hf c = 1) : ¬ k0_cond1 c = 1#1 := by revert c; decide
theorem cond2_one (c : Dev nD) (h : hf c = 1) : k0_cond2 c = 1#1 := by revert c; decide

theorem dst1_eq (c : Dev nD) (h : k0_cond1 c = 1#1) : dst1 c h = fun _ => yp c := by
  funext j
  fin_cases j
  · exact devY c _ (k0_dev5_eq c)
  · exact devY c _ (k0_dev6_eq c)
  · exact devY c _ (k0_dev7_eq c)
  · exact devY c _ (k0_dev8_eq c)
  · exact devY c _ (k0_dev9_eq c)
  · exact devY c _ (k0_dev10_eq c)
  · exact devY c _ (k0_dev11_eq c)
  · exact devY c _ (k0_dev12_eq c)
theorem dst2_eq (c : Dev nD) (h : k0_cond2 c = 1#1) : dst2 c h = fun _ => yp c := by
  funext j
  fin_cases j
  · exact devY c _ (k0_dev15_eq c)
  · exact devY c _ (k0_dev16_eq c)
  · exact devY c _ (k0_dev17_eq c)
  · exact devY c _ (k0_dev18_eq c)
  · exact devY c _ (k0_dev19_eq c)
  · exact devY c _ (k0_dev20_eq c)
  · exact devY c _ (k0_dev21_eq c)
  · exact devY c _ (k0_dev22_eq c)

/-! ## What the buffers hold -/

/-- The staged inputs, as fetched. -/
def gX (c : Dev nD) : (cc0_stg0_0 : Ref sig .tc).ty.Contents (Elt F) := iblk m c 0 t0_0
def gDkv (c : Dev nD) : (cc0_stg1_0 : Ref sig .tc).ty.Contents (Elt F) := iblk m c 1 t0_0
def gUkv (c : Dev nD) : (cc0_stg2_0 : Ref sig .tc).ty.Contents (Elt F) := iblk m c 2 t0_0
def gWq (c : Dev nD) : (cc0_stg3_0 : Ref sig .tc).ty.Contents (Elt F) := iblk m c 3 t0_0
def gWqr (c : Dev nD) : (cc0_stg4_0 : Ref sig .tc).ty.Contents (Elt F) := iblk m c 4 t0_0
def gWo (c : Dev nD) : (cc0_stg5_0 : Ref sig .tc).ty.Contents (Elt F) := iblk m c 5 t0_0

/-- The device's latent. -/
def cVal (c : Dev nD) : (cc0_scratch0 : Ref sig .tc).ty.Contents (Elt F) := k0_pay89 (k0_pay88 (gX m c) (gDkv m c))
/-- The device's half of its up-projection. -/
def uVal (c : Dev nD) : (cc0_scratch2 : Ref sig .tc).ty.Contents (Elt F) := (ukvS (hf c)).view.read (Elt F) (gUkv m c)
/-- The head the device computes at pair `j`, place `e`. -/
def headOf (c : Dev nD) (j : Fin 8) (e : Fin 2) : FVec F S256x64 .bf16 :=
  headVals (k0_pay86 (gX m c)) (k0_pay87 (gDkv m c)) ((wqM.access (wqR (hf c))).read (Elt F) (gWq m c))
    ((wqrM.access (wqrR (hf c))).read (Elt F) (gWqr m c)) (cVal m c) (cVal m (xp c)) (uVal m c) (uVal m (xp c)) j e

/-- Of the two devices of a pair along the second axis, the one that computes half `h`. -/
def holder (c : Dev nD) (h : Fin 2) : Dev nD := if hf c = h then c else yp c
theorem holder_self (c : Dev nD) : holder c (hf c) = c := if_pos rfl
theorem holder_yp (c : Dev nD) (h : Fin 2) : holder (yp c) h = holder c h := by revert c h; decide

/-- The pair, place, row and column of a head a column and row of the attention's output lie in. -/
abbrev pairAt (i : S512x1024.Idx) : Fin 8 := ⟨(i 0).val / 256 * 4 + (i 1).val % 512 / 128, by
  have h0 : (i 0).val < 512 := (i 0).isLt
  omega⟩
abbrev placeAt (i : S512x1024.Idx) : Fin 2 := ⟨(i 1).val % 128 / 64, by omega⟩
abbrev halfAt (i : S512x1024.Idx) : Fin 2 := ⟨(i 1).val / 512, by
  have h1 : (i 1).val < 1024 := (i 1).isLt
  omega⟩
abbrev inHead (i : S512x1024.Idx) : S256x64.Idx := fun a => match a with
  | ⟨0, _⟩ => ⟨(i 0).val % 256, Nat.mod_lt _ (by decide)⟩
  | ⟨1, _⟩ => ⟨(i 1).val % 64, Nat.mod_lt _ (by decide)⟩

/-- The whole attention output once both halves are there. -/
def oVal (c : Dev nD) : (cc0_scratch3 : Ref sig .tc).ty.Contents (Elt F) := fun i =>
  headOf m (holder c (halfAt i)) (pairAt i) (placeAt i) (inHead i)

theorem oVal_yp (c : Dev nD) : oVal m (yp c) = oVal m c := by
  funext i; unfold oVal; rw [holder_yp]

/-- The output projection of batch `b`. -/
def projOf (c : Dev nD) (b : Fin 2) : FVec F S256x1024 .bf16 :=
  k0_pay91 ((oM.access (rowsR b)).read (Elt F) (oVal m c)) (gWo m c)

abbrev inBatch (i : S2x256x1024.Idx) : S1x256x1024.Idx := fun a => match a with
  | ⟨0, _⟩ => (0 : Fin 1)
  | ⟨1, _⟩ => i 1
  | ⟨2, _⟩ => i 2

abbrev batchAt (i : S2x256x1024.Idx) : Fin 2 := ⟨(i 0).val, (i 0).isLt⟩
/-- The result. -/
def outVal (c : Dev nD) : S2x256x1024.Idx → Elt F .bf16 := fun i => k0_pay1 (projOf m c (batchAt i)) (inBatch i)

/-! ## Points-tos -/

/-- A region of one of device `c`'s buffers, at contents. -/
abbrev at_ {sp : Space} {s : Shape} {e : EltTy} (c : Dev nD) (v : Memref sig .tc sp s e)
    (f : Buf (Elt F) (v.view.loc (c : Thread nD τ))) : sProp 𝕄 :=
  v.view.loc (c : Thread nD τ) ↦[v.view.set]{fullShare} f
/-- The same, contents not chosen. -/
def any {sp : Space} {s : Shape} {e : EltTy} (c : Dev nD) (v : Memref sig .tc sp s e) : sProp 𝕄 :=
  iprop(∃ f : Buf (Elt F) (v.view.loc (c : Thread nD τ)), v.view.loc (c : Thread nD τ) ↦[v.view.set]{fullShare} f)

instance any_storable {sp : Space} {s : Shape} {e : EltTy} (c : Dev nD) (v : Memref sig .tc sp s e) :
    BI.Storable (upEmb : UEmb _ 𝕄) (any (F := F) c v) := by unfold any; infer_instance

/-! ## The cells -/

abbrev barCell (c : Dev nD) : GSem nD τ sig := ((c : Thread nD τ), .reg barS)
abbrev dCell (c : Dev nD) (s : DmaSem sig) : GSem nD τ sig := ((c : Thread nD τ), .dma s)

/-- The kernel's own DMA semaphores. -/
abbrev own (k : Fin 22) : DmaSem sig := (⟨6 + k.val, by have := k.isLt; omega⟩ : Fin 28)
abbrev osem : Fin 22 → SemLoc sig := fun k => .dma (own k)

abbrev Nc : ℕ := crM.view.dmaCredit
abbrev Nu : ℕ := urM.view.dmaCredit
abbrev Np : ℕ := (pairS 0 0).view.dmaCredit
abbrev No : ℕ := (resS 0).view.dmaCredit
theorem Nc_pos : 0 < Nc := View.dmaCredit_pos _ (by decide)
theorem Nu_pos : 0 < Nu := View.dmaCredit_pos _ (by decide)
theorem Np_pos : 0 < Np := View.dmaCredit_pos _ (by decide)
theorem No_pos : 0 < No := View.dmaCredit_pos _ (by decide)

/-- What one copy on a semaphore delivers in credit. -/
def amt (s : DmaSem sig) : ℕ :=
  if s.val = 6 ∨ s.val = 8 then Nc else if s.val = 7 ∨ s.val = 9 then Nu else if s.val < 26 then Np else No
theorem amt_pos (s : DmaSem sig) : 0 < amt s := by
  unfold amt
  split
  · exact Nc_pos
  split
  · exact Nu_pos
  split
  · exact Np_pos
  · exact No_pos

/-! ## The payloads -/

/-- From the partner along the first axis: its two landing buffers, and that their cells are open. -/
def barPayX (c : Dev nD) : sProp 𝕄 :=
  iprop(any (F := F) (xp c) crM ∗ any (F := F) (xp c) urM
    ∗ reached ER (dCell (xp c) (recvX 0)) 0 ∗ reached ER (dCell (xp c) (recvX 1)) 0)
/-- From the partner along the second axis: its blocks of this device's half, and that their cells are open. -/
def barPayY (c : Dev nD) : sProp 𝕄 :=
  iprop(bigSep Finset.univ (fun j : Fin 8 => any (F := F) (yp c) (pairS (hf c) j))
    ∗ bigSep Finset.univ (fun j : Fin 8 => (reached ER (dCell (yp c) (recvY j)) 0 : sProp 𝕄)))

def payLatent (c : Dev nD) : sProp 𝕄 := at_ c cM (cVal m c)
def payUp (c : Dev nD) : sProp 𝕄 := at_ c (ukvS (hf c)) (gUkv m c)
def payLatentIn (c : Dev nD) : sProp 𝕄 := at_ c crM (cVal m (xp c))
def payUpIn (c : Dev nD) : sProp 𝕄 := at_ c urM (uVal m (xp c))
def payPair (c : Dev nD) (h : Fin 2) (j : Fin 8) : sProp 𝕄 := at_ c (pairS h j) (oVal m c)
def payOut (c : Dev nD) (b : Fin 2) : sProp 𝕄 := iprop(at_ c (resS b) (outVal m c) ∗ at_ c (ovS b) (outVal m c))

/-- What a DMA semaphore of device `c` hands over. -/
def dmaPay (c : Dev nD) (s : DmaSem sig) : sProp 𝕄 :=
  if s.val = 6 then payLatent m c
  else if s.val = 7 then payUp m c
  else if s.val = 8 then payLatentIn m c
  else if s.val = 9 then payUpIn m c
  else if s.val < 18 then payPair m c (hf c) ⟨(s.val - 10) % 8, Nat.mod_lt _ (by decide)⟩
  else if s.val < 26 then payPair m c (hf (yp c)) ⟨(s.val - 18) % 8, Nat.mod_lt _ (by decide)⟩
  else payOut m c ⟨(s.val - 26) % 2, Nat.mod_lt _ (by decide)⟩

/-! ## The schedule: one round on every cell -/

abbrev dutySet : SemLoc sig → Finset Bool
  | .reg _ => {false, true}
  | .dma s => if 6 ≤ s.val then {false} else ∅

def Rd : Rounds.Schedule (GSem nD τ sig) Bool 𝕄 where
  duties g r := if r = 0 ∧ g.1.2 = .tc then dutySet g.2 else ∅
  unitless _ := False
  amount g _ _ := match g.2 with
    | .reg _ => 1
    | .dma s => amt s
  payload g _ d := match g.2 with
    | .reg _ => bif d then barPayY g.1.1 else barPayX g.1.1
    | .dma s => dmaPay m g.1.1 s
  amount_pos g _ _ _ := by
    split
    · exact Nat.one_pos
    · exact amt_pos _

instance Rd_storable (g : GSem nD τ sig) (r : ℕ) (d : Bool) :
    BI.Storable (upEmb : UEmb _ 𝕄) ((Rd (F := F) m).payload g r d) := by
  show BI.Storable upEmb (match g.2 with
    | .reg _ => bif d then barPayY g.1.1 else barPayX g.1.1
    | .dma s => dmaPay m g.1.1 s)
  split
  · cases d
    · show BI.Storable upEmb (barPayX g.1.1); unfold barPayX; infer_instance
    · show BI.Storable upEmb (barPayY g.1.1); unfold barPayY; infer_instance
  · unfold dmaPay payLatent payUp payLatentIn payUpIn payPair payOut
    (repeat' split) <;> infer_instance

section Tables

variable (c : Dev nD)

theorem duties_bar : (Rd (F := F) m).duties (barCell c) 0 = {false, true} := by
  dsimp only [Rd]; exact if_pos ⟨rfl, rfl⟩
theorem duties_dma (s : DmaSem sig) (hs : 6 ≤ s.val) : (Rd (F := F) m).duties (dCell c s) 0 = {false} := by
  dsimp only [Rd]; exact (if_pos ⟨rfl, rfl⟩).trans (if_pos hs)
theorem duties_later (g : GSem nD τ sig) : ∀ r, 1 ≤ r → (Rd (F := F) m).duties g r = ∅ :=
  fun r hr => by dsimp only [Rd]; exact if_neg fun h => by omega
theorem amount_bar (d : Bool) : (Rd (F := F) m).amount (barCell c) 0 d = 1 := rfl
theorem amount_dma (s : DmaSem sig) (d : Bool) : (Rd (F := F) m).amount (dCell c s) 0 d = amt s := rfl
theorem expect_bar : (Rd (F := F) m).expect (barCell c) 0 = 2 := by
  unfold Schedule.expect Schedule.amountOf
  rw [duties_bar, Finset.sum_pair (by decide), amount_bar, amount_bar]
theorem expect_dma (s : DmaSem sig) (hs : 6 ≤ s.val) : (Rd (F := F) m).expect (dCell c s) 0 = amt s := by
  unfold Schedule.expect Schedule.amountOf
  rw [duties_dma m c s hs, Finset.sum_singleton, amount_dma]
theorem payload_dma (s : DmaSem sig) (d : Bool) : (Rd (F := F) m).payload (dCell c s) 0 d = dmaPay m c s := rfl
theorem payload_barX : (Rd (F := F) m).payload (barCell c) 0 false = barPayX c := rfl
theorem payload_barY : (Rd (F := F) m).payload (barCell c) 0 true = barPayY c := rfl
theorem rest_bar : bigSep ((Rd (F := F) m).duties (barCell c) 0 \ ∅) (fun d => (Rd (F := F) m).payload (barCell c) 0 d)
    = iprop(barPayX c ∗ barPayY c) := by
  rw [Finset.sdiff_empty, duties_bar, bigSep_insert (by decide), bigSep_singleton, payload_barX, payload_barY]
  rfl
theorem rest_dma (s : DmaSem sig) (hs : 6 ≤ s.val) :
    bigSep ((Rd (F := F) m).duties (dCell c s) 0 \ ∅) (fun d => (Rd (F := F) m).payload (dCell c s) 0 d) = dmaPay m c s := by
  rw [Finset.sdiff_empty, duties_dma m c s hs, bigSep_singleton, payload_dma]

theorem dmaPay_sendX0 : dmaPay m c (sendX 0) = payLatent m c := rfl
theorem dmaPay_sendX1 : dmaPay m c (sendX 1) = payUp m c := rfl
theorem dmaPay_recvX0 : dmaPay m c (recvX 0) = payLatentIn m c := rfl
theorem dmaPay_recvX1 : dmaPay m c (recvX 1) = payUpIn m c := rfl
theorem dmaPay_sendY (j : Fin 8) : dmaPay m c (sendY j) = payPair m c (hf c) j := by fin_cases j <;> rfl
theorem dmaPay_recvY (j : Fin 8) : dmaPay m c (recvY j) = payPair m c (hf (yp c)) j := by fin_cases j <;> rfl
theorem dmaPay_outS (b : Fin 2) : dmaPay m c (outS b) = payOut m c b := by fin_cases b <;> rfl

end Tables

theorem amt_sendY (j : Fin 8) : amt (sendY j) = Np := by revert j; decide
theorem amt_recvY (j : Fin 8) : amt (recvY j) = Np := by revert j; decide
theorem amt_outS (b : Fin 2) : amt (outS b) = No := by revert b; decide

/-! ## Who pays what, and the levels -/

/-- What a device still owes its partner along the second axis: the pairs of a list. -/
def owedY (c : Dev nD) : List (Fin 8) → CellTallies nD τ sig Unit
  | [] => 0
  | j :: l => owedY c l + tallyAt (dCell (yp c) (recvY j)) () Np

abbrev O1 (c : Dev nD) : CellTallies nD τ sig Unit := owedY c pairs + tallyAt (dCell (xp c) (recvX 1)) () Nu
abbrev O2 (c : Dev nD) : CellTallies nD τ sig Unit := O1 c + tallyAt (dCell (xp c) (recvX 0)) () Nc
abbrev O3 (c : Dev nD) : CellTallies nD τ sig Unit := O2 c + tallyAt (barCell (yp c)) () 1
/-- What a device owes when it starts. -/
abbrev O₀ (c : Dev nD) : CellTallies nD τ sig Unit := O3 c + tallyAt (barCell (xp c)) () 1

def L (g : GSem nD τ sig) : Finset Unit := if g.1.2 = .tc then {()} else ∅
/-- The barrier below the arrivals along the first axis, these below the arrivals along the second. -/
def lv (g : GSem nD τ sig) (_ : Unit) : ℕ := match g.2 with
  | .reg _ => 1
  | .dma s => if s.val = 8 ∨ s.val = 9 then 2 else if 18 ≤ s.val ∧ s.val < 26 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_tally {n k : ℕ} (c : Dev nD) (sm : SemLoc sig) (h : n < lv ((c : Thread nD τ), sm) ()) :
    Above n (tallyAt ((c : Thread nD τ), sm) () k) := fun g u hg => by
  rw [tallyAt_apply] at hg
  by_cases h' : g = ((c : Thread nD τ), sm) ∧ u = ()
  · obtain ⟨rfl, rfl⟩ := h'
    exact ⟨by rw [L_tc]; exact Finset.mem_singleton_self _, h⟩
  · rw [if_neg h'] at hg; exact absurd hg (Nat.lt_irrefl 0)
theorem above_add {n : ℕ} {O P : CellTallies nD τ sig Unit} (hO : Above n O) (hP : Above n P) : Above n (O + P) :=
  fun g u h => by
    rcases Nat.add_pos_iff_pos_or_pos.mp (show 0 < O g u + P g u from h) with h | h
    · exact hO g u h
    · exact hP g u h

theorem lv_recvY (c : Dev nD) (j : Fin 8) : lv (dCell c (recvY j)) () = 3 := by
  fin_cases j <;> rfl
theorem above_owedY (c : Dev nD) : ∀ l : List (Fin 8), Above 2 (owedY c l)
  | [] => above_zero _
  | _ :: l => above_add (above_owedY c l) (above_tally (yp c) _ (by rw [lv_recvY]; decide))
theorem Above.mono {n k : ℕ} {O : CellTallies nD τ sig Unit} (h : Above n O) (hk : k ≤ n) : Above k O :=
  fun g u hg => ⟨(h g u hg).1, Nat.lt_of_le_of_lt hk (h g u hg).2⟩
theorem above_O2 (c : Dev nD) : Above 1 (O2 c) :=
  above_add (above_add ((above_owedY c pairs).mono (by decide)) (above_tally (xp c) _ (by decide +revert)))
    (above_tally (xp c) _ (by decide +revert))

/-- A wait at level `n` or below while owing only what lies above `n`. -/
theorem mayWait {n : ℕ} {O : CellTallies nD τ sig Unit} (c : Dev nD) (sm : SemLoc sig)
    (hs : lv ((c : Thread nD τ), sm) () ≤ n) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## The cells as a family -/

/-- Device `c`'s cells: the barrier, then its own DMA cells. -/
abbrev slot : Option (Fin 22) → SemLoc sig
  | none => .reg barS
  | some k => osem k
theorem slot_inj : Function.Injective slot := by decide

/-- A cell of a device. -/
abbrev cellAt (p : Dev nD × Option (Fin 22)) : GSem nD τ sig := ((p.1 : Thread nD τ), slot p.2)
abbrev invAt (κ : GSem nD τ sig → ℕ) (p : Dev nD × Option (Fin 22)) : sProp 𝕄 :=
  cellInv ER (Rd (F := F) m) (κ (cellAt p)) (cellAt p)
abbrev openAt (d : Dev nD) : sProp 𝕄 := reached ER (barCell d) 0

/-- The invariants of all cells, known to everyone; and that every barrier is open. -/
def records (κ : GSem nD τ sig → ℕ) : sProp 𝕄 :=
  iprop(bigSep Finset.univ (invAt m κ) ∗ bigSep Finset.univ (openAt (F := F)))

instance records_persistent (κ : GSem nD τ sig → ℕ) : BI.Persistent (records m κ) := by unfold records; infer_instance

theorem inv_at (κ : GSem nD τ sig → ℕ) (p : Dev nD × Option (Fin 22)) : records m κ ⊢ invAt m κ p :=
  (BI.sep_and.trans and_elimL).trans (bigSep_elim (Finset.mem_univ p))
theorem inv_bar (κ : GSem nD τ sig → ℕ) (d : Dev nD) : records m κ ⊢ cellInv ER (Rd m) (κ (barCell d)) (barCell d) :=
  inv_at m κ (d, none)
theorem inv_dma (κ : GSem nD τ sig → ℕ) (d : Dev nD) (s : DmaSem sig) (hs : 6 ≤ s.val) :
    records m κ ⊢ cellInv ER (Rd m) (κ (dCell d s)) (dCell d s) := by
  have e : s = own ⟨s.val - 6, by have h : s.val < 28 := s.isLt; omega⟩ := Fin.ext (by show s.val = 6 + (s.val - 6); omega)
  rw [e]
  exact inv_at m κ (d, some _)
theorem reached_bar (κ : GSem nD τ sig → ℕ) (d : Dev nD) : records m κ ⊢ reached ER (barCell d) 0 :=
  (BI.sep_and.trans and_elimR).trans (bigSep_elim (Φ := openAt (F := F)) (Finset.mem_univ d))

theorem close (κ : ℕ) (g : GSem nD τ sig) :
    iprop(cellInv ER (Rd m) κ g ∗ atPos ER g (0 + 1) ∅ 0) ⊢ (|={Set.univ}=> semVal g 0 : sProp 𝕄) :=
  Rounds.cell_close ER (Rd m) (Set.mem_univ κ) id (duties_later m g)

abbrev 𝒱₀ : Variants := Variants.none

end Cert.KernelIdeal.Run

end
-- ==== Proof.Blocks.lean ====
/- How the attention's output splits into its blocks of head pairs, the result into its batches; and that
   what the stores and the copies leave in a block is what the protocol names. -/
module

public import proofs.«01_k».proof.Proof.Protocol

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ)

/-! ## Membership -/

theorem mem_pair (h : Fin 2) (j : Fin 8) (i : S512x1024.Idx) :
    i ∈ (pairR h j).set ↔ halfAt i = h ∧ pairAt i = j := by
  have h0 : (i 0).val < 512 := (i 0).isLt
  have h1 : (i 1).val < 1024 := (i 1).isLt
  have hh := h.isLt
  have hj := j.isLt
  rw [Rect.mem_set_unit, Fin.ext_iff, Fin.ext_iff]
  constructor
  · intro H
    have H0 : j.val / 4 * 256 ≤ (i 0).val ∧ (i 0).val < j.val / 4 * 256 + 256 := H 0
    have H1 : h.val * 512 + j.val % 4 * 128 ≤ (i 1).val ∧ (i 1).val < h.val * 512 + j.val % 4 * 128 + 128 := H 1
    constructor
    · show (i 1).val / 512 = h.val; omega
    · show (i 0).val / 256 * 4 + (i 1).val % 512 / 128 = j.val; omega
  · rintro ⟨H0, H1⟩ a
    replace H0 : (i 1).val / 512 = h.val := H0
    replace H1 : (i 0).val / 256 * 4 + (i 1).val % 512 / 128 = j.val := H1
    match a with
    | ⟨0, _⟩ => show j.val / 4 * 256 ≤ (i 0).val ∧ (i 0).val < j.val / 4 * 256 + 256; omega
    | ⟨1, _⟩ =>
      show h.val * 512 + j.val % 4 * 128 ≤ (i 1).val ∧ (i 1).val < h.val * 512 + j.val % 4 * 128 + 128; omega

theorem mem_head (h : Fin 2) (j : Fin 8) (e : Fin 2) (i : S512x1024.Idx) :
    i ∈ (headR h j e).set ↔ (halfAt i = h ∧ pairAt i = j) ∧ placeAt i = e := by
  have h0 : (i 0).val < 512 := (i 0).isLt
  have h1 : (i 1).val < 1024 := (i 1).isLt
  have hh := h.isLt
  have hj := j.isLt
  have he := e.isLt
  rw [Rect.mem_set_unit, Fin.ext_iff, Fin.ext_iff, Fin.ext_iff]
  constructor
  · intro H
    have H0 : j.val / 4 * 256 ≤ (i 0).val ∧ (i 0).val < j.val / 4 * 256 + 256 := H 0
    have H1 : h.val * 512 + j.val % 4 * 128 + e.val * 64 ≤ (i 1).val
      ∧ (i 1).val < h.val * 512 + j.val % 4 * 128 + e.val * 64 + 64 := H 1
    refine ⟨⟨?_, ?_⟩, ?_⟩
    · show (i 1).val / 512 = h.val; omega
    · show (i 0).val / 256 * 4 + (i 1).val % 512 / 128 = j.val; omega
    · show (i 1).val % 128 / 64 = e.val; omega
  · rintro ⟨⟨H0, H1⟩, H2⟩ a
    replace H0 : (i 1).val / 512 = h.val := H0
    replace H1 : (i 0).val / 256 * 4 + (i 1).val % 512 / 128 = j.val := H1
    replace H2 : (i 1).val % 128 / 64 = e.val := H2
    match a with
    | ⟨0, _⟩ => show j.val / 4 * 256 ≤ (i 0).val ∧ (i 0).val < j.val / 4 * 256 + 256; omega
    | ⟨1, _⟩ =>
      show h.val * 512 + j.val % 4 * 128 + e.val * 64 ≤ (i 1).val
        ∧ (i 1).val < h.val * 512 + j.val % 4 * 128 + e.val * 64 + 64
      omega

theorem mem_batch (b : Fin 2) (i : S2x256x1024.Idx) : i ∈ (batR b).set ↔ batchAt i = b := by
  have h1 : (i 1).val < 256 := (i 1).isLt
  have h2 : (i 2).val < 1024 := (i 2).isLt
  rw [Rect.mem_set_unit, Fin.ext_iff]
  constructor
  · intro H
    have H0 : b.val ≤ (i 0).val ∧ (i 0).val < b.val + 1 := H 0
    show (i 0).val = b.val
    omega
  · intro H a
    replace H : (i 0).val = b.val := H
    match a with
    | ⟨0, _⟩ => show b.val ≤ (i 0).val ∧ (i 0).val < b.val + 1; omega
    | ⟨1, _⟩ => show 0 ≤ (i 1).val ∧ (i 1).val < 0 + 256; omega
    | ⟨2, _⟩ => show 0 ≤ (i 2).val ∧ (i 2).val < 0 + 1024; omega

theorem pair_set (h : Fin 2) (j : Fin 8) : (pairS h j).view.set = (pairR h j).set := View.set_slice_whole _ _
theorem head_set (h : Fin 2) (j : Fin 8) (e : Fin 2) : (oM.access (headR h j e)).set = (headR h j e).set := View.set_slice_whole _ _
theorem res_set (b : Fin 2) : (resS b).view.set = (batR b).set := (View.set_reshape _ _).trans (View.set_slice_whole _ _)
theorem ov_set (b : Fin 2) : (ovS b).view.set = (batR b).set := (View.set_reshape _ _).trans (View.set_slice_whole _ _)
theorem bat_set (b : Fin 2) : (ovM.access (batR b)).set = (batR b).set := View.set_slice_whole _ _

theorem head_subset (h : Fin 2) (j : Fin 8) (e : Fin 2) : (oM.access (headR h j e)).set ⊆ (pairS h j).view.set := by
  rw [head_set, pair_set]
  intro i hi
  exact (mem_pair h j i).mpr ((mem_head h j e i).mp hi).1

/-- The place in a head of an element of it. -/
theorem head_emb (h : Fin 2) (j : Fin 8) (e : Fin 2) (i : S512x1024.Idx) (hi : i ∈ (headR h j e).set) :
    (oM.access (headR h j e)).emb (inHead i) = i := by
  have h0 : (i 0).val < 512 := (i 0).isLt
  have h1 : (i 1).val < 1024 := (i 1).isLt
  have hh := h.isLt
  have hj := j.isLt
  have he := e.isLt
  rw [mem_head, Fin.ext_iff, Fin.ext_iff, Fin.ext_iff] at hi
  obtain ⟨⟨H0, H1⟩, H2⟩ := hi
  replace H0 : (i 1).val / 512 = h.val := H0
  replace H1 : (i 0).val / 256 * 4 + (i 1).val % 512 / 128 = j.val := H1
  replace H2 : (i 1).val % 128 / 64 = e.val := H2
  funext a
  apply Fin.ext
  match a with
  | ⟨0, _⟩ => show j.val / 4 * 256 + 1 * ((i 0).val % 256) = (i 0).val; omega
  | ⟨1, _⟩ => show h.val * 512 + j.val % 4 * 128 + e.val * 64 + 1 * ((i 1).val % 64) = (i 1).val; omega

theorem bat_emb (b : Fin 2) (i : S2x256x1024.Idx) (hi : i ∈ (batR b).set) :
    (ovM.access (batR b)).emb (inBatch i) = i := by
  rw [mem_batch, Fin.ext_iff] at hi
  replace hi : (i 0).val = b.val := hi
  funext a
  apply Fin.ext
  match a with
  | ⟨0, _⟩ => show b.val + 1 * 0 = (i 0).val; omega
  | ⟨1, _⟩ => show 0 + 1 * (i 1).val = (i 1).val; omega
  | ⟨2, _⟩ => show 0 + 1 * (i 2).val = (i 2).val; omega

/-! ## What the stores leave -/

/-- Both heads of pair `j` stored, the block holds the attention's output there. -/
theorem stored_pair (c : Dev nD) (j : Fin 8) (f : (cc0_scratch3 : Ref sig .tc).ty.Contents (Elt F)) :
    ∀ i ∈ (pairS (hf c) j).view.set,
      (oM.access (headR (hf c) j 1)).write (Elt F)
        ((oM.access (headR (hf c) j 0)).write (Elt F) f (headOf m c j 0) Finset.univ) (headOf m c j 1) Finset.univ i = oVal m c i := by
  intro i hi
  rw [pair_set] at hi
  obtain ⟨hh, hj⟩ := (mem_pair _ _ _).mp hi
  have hv : ∀ e, placeAt i = e → oVal m c i = headOf m c j e (inHead i) := by
    rintro e rfl
    unfold oVal; rw [hh, hj, holder_self]
  have hw : ∀ e g, placeAt i = e → (oM.access (headR (hf c) j e)).write (Elt F) g (headOf m c j e) Finset.univ i = oVal m c i := by
    intro e g he
    have hm : i ∈ (headR (hf c) j e).set := (mem_head _ _ _ _).mpr ⟨⟨hh, hj⟩, he⟩
    rw [hv e he]
    conv_lhs => rw [← head_emb _ _ _ i hm]
    exact View.write_emb_of_mem _ _ (Finset.mem_univ _)
  rcases (by omega : (placeAt i).val = 0 ∨ (placeAt i).val = 1) with he | he
  · rw [View.write_of_not_mem]
    · exact hw 0 f (Fin.ext he)
    · rw [View.setOn_univ, head_set, mem_head]
      rintro ⟨-, h⟩
      rw [Fin.ext_iff, he] at h
      exact absurd h (by decide)
  · exact hw 1 _ (Fin.ext he)

/-- A batch stored, its rows hold the result. -/
theorem stored_batch (c : Dev nD) (b : Fin 2) (f : (cc0_scratch4 : Ref sig .tc).ty.Contents (Elt F)) :
    ∀ i ∈ (ovS b).view.set,
      (ovM.access (batR b)).write (Elt F) f (k0_pay1 (projOf m c b)) Finset.univ i = outVal m c i := by
  intro i hi
  rw [ov_set] at hi
  have hb := (mem_batch _ _).mp hi
  conv_lhs => rw [← bat_emb b i hi]
  refine (View.write_emb_of_mem _ _ (Finset.mem_univ _)).trans ?_
  unfold outVal
  rw [hb]
  rfl

/-! ## What the copies leave -/

/-- A view written with what the same view reads is the contents read, there. -/
theorem copied_pair (h : Fin 2) (j : Fin 8) (f g : (cc0_scratch3 : Ref sig .tc).ty.Contents (Elt F)) :
    ∀ i ∈ (pairS h j).view.set,
      (pairS h j).view.write (Elt F) f ((pairS h j).view.read (Elt F) g) Finset.univ i = g i := by
  intro i hi
  obtain ⟨x, -, rfl⟩ := Finset.mem_map.mp hi
  exact View.write_emb_of_mem _ _ (Finset.mem_univ _)

theorem copied_batch (b : Fin 2) (f : (main_v9 : Ref sig .tc).ty.Contents (Elt F)) (g : S2x256x1024.Idx → Elt F .bf16) :
    ∀ i ∈ (resS b).view.set,
      (resS b).view.write (Elt F) f ((ovS b).view.read (Elt F) g) Finset.univ i = g i := by
  intro i hi
  obtain ⟨x, -, rfl⟩ := Finset.mem_map.mp hi
  exact View.write_emb_of_mem _ _ (Finset.mem_univ _)

/-! ## Splitting -/

theorem union_eq {ℓ : Loc nD τ sig} {I J : Finset (Idx ℓ)} {f : Buf (Elt F) ℓ} (h : Disjoint I J) :
    (ℓ ↦[I ∪ J]{fullShare} f : sProp 𝕄) = iprop((ℓ ↦[I]{fullShare} f) ∗ ℓ ↦[J]{fullShare} f) :=
  have hu : (ℓ ↦[I ∪ J]{fullShare} f : sProp 𝕄) ⊣⊢ iprop((ℓ ↦[I]{fullShare} f) ∗ ℓ ↦[J]{fullShare} f) := pointsTo_union h
  BI.equiv_iff.mp ⟨hu.1, hu.2⟩

/-- The output's block of one half, pair by pair. -/
abbrev halfPts (c : Dev nD) (h : Fin 2) (f : (cc0_scratch3 : Ref sig .tc).ty.Contents (Elt F)) : sProp 𝕄 :=
  bigSep Finset.univ fun j : Fin 8 => at_ c (pairS h j) f

/-- The places of half `h`. -/
def blocks (h : Fin 2) : Finset S512x1024.Idx := Finset.univ.biUnion fun j : Fin 8 => (pairR h j).set
theorem mem_blocks (h : Fin 2) (i : S512x1024.Idx) : i ∈ blocks h ↔ halfAt i = h := by
  unfold blocks
  rw [Finset.mem_biUnion]
  constructor
  · rintro ⟨j, -, hi⟩; exact ((mem_pair _ _ _).mp hi).1
  · intro hi; exact ⟨pairAt i, Finset.mem_univ _, (mem_pair _ _ _).mpr ⟨hi, rfl⟩⟩
theorem pairs_disjoint (h : Fin 2) (j j' : Fin 8) (hne : j ≠ j') : Disjoint (pairR h j).set (pairR h j').set := by
  rw [Finset.disjoint_left]
  intro i hi hi'
  exact hne (((mem_pair _ _ _).mp hi).2.symm.trans ((mem_pair _ _ _).mp hi').2)
theorem blocks_disjoint (c : Dev nD) : Disjoint (blocks (hf c)) (blocks (hf (yp c))) := by
  rw [Finset.disjoint_left]
  intro i hi hi'
  exact hf_yp c (((mem_blocks _ _).mp hi').symm.trans ((mem_blocks _ _).mp hi))
theorem blocks_union (c : Dev nD) : (Finset.univ : Finset S512x1024.Idx) = blocks (hf c) ∪ blocks (hf (yp c)) := by
  symm
  rw [Finset.eq_univ_iff_forall]
  intro i
  rw [Finset.mem_union, mem_blocks, mem_blocks]
  have h1 := hf_yp c
  generalize halfAt i = a at *
  generalize hf c = x at *
  generalize hf (yp c) = y at *
  revert a x y; decide

theorem blocks_pts (c : Dev nD) (h : Fin 2) (f : Buf (Elt F) ((c : Thread nD τ).loc cc0_scratch3)) :
    (((c : Thread nD τ).loc cc0_scratch3) ↦[blocks h]{fullShare} f : sProp 𝕄) = halfPts c h f := by
  have e : halfPts c h f = (bigSep Finset.univ fun j : Fin 8 => (((c : Thread nD τ).loc cc0_scratch3) ↦[(pairR h j).set]{fullShare} f : sProp 𝕄)) :=
    bigSep_congr fun j _ => by unfold at_; rw [pair_set]
  rw [e]
  exact pointsTo_biUnion (ℓ := (c : Thread nD τ).loc cc0_scratch3) Finset.univ (fun j : Fin 8 => (pairR h j).set)
    (fun j _ j' _ hne => pairs_disjoint h j j' hne)

theorem split_o (c : Dev nD) (f : Buf (Elt F) ((c : Thread nD τ).loc cc0_scratch3)) :
    ((((c : Thread nD τ).loc cc0_scratch3) ↦{fullShare} f) : sProp 𝕄)
      = iprop(halfPts c (hf c) f ∗ halfPts c (hf (yp c)) f) := by
  rw [← blocks_pts, ← blocks_pts]
  refine Eq.trans ?_ (union_eq (blocks_disjoint c))
  exact congrArg (fun S : Finset S512x1024.Idx => (((c : Thread nD τ).loc cc0_scratch3) ↦[S]{fullShare} f : sProp 𝕄)) (blocks_union c)

theorem bat_disjoint : Disjoint (batR 0).set (batR 1).set := by
  rw [Finset.disjoint_left]
  intro i h h'
  exact absurd (((mem_batch _ _).mp h).symm.trans ((mem_batch _ _).mp h')) (by decide)
theorem bat_union : (Finset.univ : Finset S2x256x1024.Idx) = (batR 0).set ∪ (batR 1).set := by
  symm
  rw [Finset.eq_univ_iff_forall]
  intro i
  rw [Finset.mem_union, mem_batch, mem_batch]
  have h : (i 0).val < 2 := (i 0).isLt
  rcases (by omega : (i 0).val = 0 ∨ (i 0).val = 1) with h | h
  · exact .inl (Fin.ext h)
  · exact .inr (Fin.ext h)

theorem split_res (c : Dev nD) (f : (main_v9 : Ref sig .tc).ty.Contents (Elt F)) :
    ((((c : Thread nD τ).loc main_v9) ↦{fullShare} f) : sProp 𝕄) = iprop(at_ c (resS 0) f ∗ at_ c (resS 1) f) := by
  unfold at_
  rw [res_set, res_set]
  refine Eq.trans ?_ (union_eq ( bat_disjoint))
  exact congrArg (fun S => (((c : Thread nD τ).loc main_v9) ↦[S]{fullShare} f : sProp 𝕄)) bat_union
theorem split_ov (c : Dev nD) (f : (cc0_scratch4 : Ref sig .tc).ty.Contents (Elt F)) :
    ((((c : Thread nD τ).loc cc0_scratch4) ↦{fullShare} f) : sProp 𝕄) = iprop(at_ c (ovS 0) f ∗ at_ c (ovS 1) f) := by
  unfold at_
  rw [ov_set, ov_set]
  refine Eq.trans ?_ (union_eq ( bat_disjoint))
  exact congrArg (fun S => (((c : Thread nD τ).loc cc0_scratch4) ↦[S]{fullShare} f : sProp 𝕄)) bat_union

end Cert.KernelIdeal.Run

end
-- ==== Proof.Run.lean ====
/- The body of the kernel run at one device: each segment of the program from what it holds to what it
   leaves, and the whole from what a device starts with to the result in its buffer. -/
module

public import proofs.«01_k».proof.Proof.Blocks

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ)

/-- The weakest precondition of a piece of the body at device `c`. -/
abbrev WP {α : Type} (c : Dev nD) (p : BodyProg F α) (Q : α → sProp 𝕄) : sProp 𝕄 :=
  wp frame (wpE (defs₀ (F := F)) 𝒱₀ (c : Thread nD τ) none) Set.univ p Q

/-- The device owes `O`, whatever it has waited for. -/
abbrev owe (c : Dev nD) (O : CellTallies nD τ sig Unit) : sProp 𝕄 := iprop(∃ W, owes (c : Thread nD τ) O W)

theorem bind_run {α β : Type} (c : Dev nD) (p : BodyProg F α) (k : α → BodyProg F β) (Q : β → sProp 𝕄) :
    WP c p (fun r => WP c (k r) Q) ⊢ WP c (p >>= k) Q := by
  show _ ⊢ wp _ _ _ _ _
  rw [wp_bind]

theorem ret_run {α : Type} (c : Dev nD) (a : α) (Q : α → sProp 𝕄) : Q a ⊢ WP c (.ret a) Q := by
  show _ ⊢ wp frame _ _ (Prog.ret a) Q
  rw [wp_ret]
  iintro H; imodintro; iexact H

theorem lv_le (g : GSem nD τ sig) : lv g () ≤ 3 := by
  unfold lv
  split
  · decide
  · (repeat' split) <;> decide

/-! ## One wait, one send -/

section Rules

variable (κ : GSem nD τ sig → ℕ) (c : Dev nD)

/-- A wait on an own DMA cell: its counter comes back at zero, and what the cell hands over. -/
theorem wait_dma (s : DmaSem sig) (hs : 6 ≤ s.val) {n N : ℕ} {O : CellTallies nD τ sig Unit}
    (hl : lv (dCell c s) () ≤ n) (hO : Above n O) {sp sp' : Space} {sh sh' : Shape} {e e' : EltTy}
    {src : Memref sig .tc sp' sh' e'} {dst : Memref sig .tc sp sh e} (hN : dst.view.dmaCredit = N) (ha : amt s = N)
    {h1 : src.view.WordExact} {h2 : dst.view.WordExact} {α : Type} {k : PUnit → BodyProg F α} {Q : α → sProp 𝕄} :
    iprop(records m κ ∗ levAts L lv ∗ cred (tallyAt (dCell c s) () N) ∗ owe c O ∗ atPos ER (dCell c s) 0 ∅ 0)
      ⊢ iprop(((owe c O ∗ semVal (dCell c s) 0 ∗ dmaPay m c s) -∗ WP c (k ⟨⟩) Q)
          -∗ WP c (.op (.waitDma2 s src dst h1 h2) k) Q) := by
  subst hN
  iintro ⟨#Hrec, #Hlev, Hc, ⟨%W, HO⟩, Hat⟩ Hk
  ihave #HI := (inv_dma m κ c s hs) $$ Hrec
  iapply (Rounds.wp_wait_rest_token 𝒱₀ ER (Rd m) (c : Thread nD τ) none (κ := κ (dCell c s))
      (wpE_waitDma2_eq (src := src) (dst := dst) 𝒱₀ (c : Thread nD τ) none Set.univ) (Set.mem_univ _) () (O := O) (W := W) (R := 0) (m := 0) (T := ∅)
      ((Nat.zero_add _).trans (ha.symm.trans (expect_dma m c s hs).symm))) $$ [Hc HO Hat]
  · isplitr; · iexact HI
    isplitl [Hc]; · iexact Hc
    isplitl [HO]; · iexact HO
    isplitr; · iapply (mayWait c (.dma s) hl hO); iexact Hlev
    iexact Hat
  iintro ⟨HO, Hat, -, Hpay⟩
  ihave Hp := (Entails.of_eq (rest_dma m c s hs)) $$ Hpay
  imod (close m (κ (dCell c s)) (dCell c s)) $$ [Hat] with Hz
  · isplitr; · iexact HI
    iexact Hat
  iapply Hk
  isplitl [HO]; · iexists _; iexact HO
  isplitl [Hz]; · iexact Hz
  iexact Hp

/-- A copy to another device: both cells' duties paid, the credit of the own one in hand. -/
theorem send_dma (c' : Dev nD) (s r : DmaSem sig) (hs : 6 ≤ s.val) (hr : 6 ≤ r.val) {N : ℕ}
    {sp sp' : Space} {sh : Shape} {e : EltTy} {src : Memref sig .tc sp sh e} {dst : Memref sig .tc sp' sh e}
    {hsc : dst.view.ref.isScScratch = false} {hsrc : src.view.WordExact} {hdst : dst.view.WordExact}
    {hsem : DmaTarget.Typed sp (.dma r) (.remote (Dev.tc c' : Thread nD τ) dst (.dma s) hsc)}
    (fs : Buf (Elt F) (src.view.loc (c : Thread nD τ))) (fd : Buf (Elt F) (dst.view.loc (c' : Thread nD τ)))
    (hN : dst.view.dmaCredit = N) (h₁ : amt s = N) (h₂ : amt r = N) (O : CellTallies nD τ sig Unit)
    (hpay₁ : at_ c src fs ⊢ dmaPay m c s)
    (hpay₂ : at_ c' dst (dst.view.write (Elt F) fd (src.view.read (Elt F) fs) Finset.univ) ⊢ dmaPay m c' r)
    {α : Type} {k : PUnit → BodyProg F α} {Q : α → sProp 𝕄} :
    iprop(records m κ ∗ at_ c src fs ∗ at_ c' dst fd ∗ owe c (O + tallyAt (dCell c' r) () N)
        ∗ dutyTok ER (dCell c s) 0 false ∗ reached ER (dCell c s) 0
        ∗ dutyTok ER (dCell c' r) 0 false ∗ reached ER (dCell c' r) 0)
      ⊢ iprop(((cred (tallyAt (dCell c s) () N) ∗ owe c O) -∗ WP c (k ⟨⟩) Q)
          -∗ WP c (.op (.enqueueDma src (.remote (Dev.tc c' : Thread nD τ) dst (.dma s) hsc) (.dma r) hsrc hdst hsem) k) Q) := by
  iintro ⟨#Hrec, Hs, Hd, ⟨%W, HO⟩, Ht, #Hr, Ht', #Hr'⟩ Hk
  ihave #HI := (inv_dma m κ c s hs) $$ Hrec
  ihave #HI' := (inv_dma m κ c' r hr) $$ Hrec
  iapply (Rounds.wp_send_pointsTo 𝒱₀ ER (Rd m) (c : Thread nD τ) none (c' := (c' : Thread nD τ)) (src := src) (dst := dst)
      (sS := .dma s) (sem := .dma r) (q := fullShare) (fs := fs) (κ₁ := κ (dCell c s)) (κ₂ := κ (dCell c' r))
      (r₁ := 0) (r₂ := 0) (d₁ := false) (d₂ := false) (fd := fd)
      (by rw [duties_dma m c s hs]; exact Finset.mem_singleton_self _) (by rw [duties_dma m c' r hr]; exact Finset.mem_singleton_self _)
      () () N hN ((amount_dma m c s false).trans h₁) ((amount_dma m c' r false).trans h₂) O rfl (W := W)
      (by rw [payload_dma]; exact hpay₁) (by rw [payload_dma]; exact hpay₂)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Rules

/-! ## Loops -/

/-- The assertions of a list, together. -/
def sepL {α : Type} (l : List α) (Φ : α → sProp 𝕄) : sProp 𝕄 := match l with
  | [] => iprop(emp)
  | a :: l => iprop(Φ a ∗ sepL l Φ)

theorem sepL_mono {α : Type} {Φ Ψ : α → sProp 𝕄} (h : ∀ a, Φ a ⊢ Ψ a) : ∀ l : List α, sepL l Φ ⊢ sepL l Ψ
  | [] => .rfl
  | a :: l => BI.sep_mono (h a) (sepL_mono h l)

theorem sepL_sep {α : Type} (Φ Ψ : α → sProp 𝕄) : ∀ l : List α,
    iprop(sepL l Φ ∗ sepL l Ψ) ⊢ sepL l (fun a => iprop(Φ a ∗ Ψ a))
  | [] => by unfold sepL; iintro -; iempintro
  | a :: l => by
    unfold sepL
    iintro ⟨⟨Ha, Hl⟩, ⟨Hb, Hm⟩⟩
    isplitl [Ha Hb]
    · isplitl [Ha]; · iexact Ha
      iexact Hb
    iapply (sepL_sep Φ Ψ l)
    isplitl [Hl]; · iexact Hl
    iexact Hm

theorem sepL_split {α : Type} (Φ Ψ : α → sProp 𝕄) : ∀ l : List α,
    sepL l (fun a => iprop(Φ a ∗ Ψ a)) ⊢ iprop(sepL l Φ ∗ sepL l Ψ)
  | [] => by unfold sepL; iintro -; isplitl [] <;> iempintro
  | a :: l => by
    unfold sepL
    iintro ⟨⟨Ha, Hb⟩, H⟩
    ihave H := (sepL_split Φ Ψ l) $$ H
    icases H with ⟨Hl, Hm⟩
    isplitl [Ha Hl]
    · isplitl [Ha]; · iexact Ha
      iexact Hl
    isplitl [Hb]; · iexact Hb
    iexact Hm

/-- The pairs' assertions as a list's. -/
theorem sepL_pairs (Φ : Fin 8 → sProp 𝕄) : bigSep Finset.univ Φ = sepL pairs Φ := by
  rw [bigSep_univ_eq_bigSepL pairs (by decide) (by decide) Φ]
  have e : iprop(Φ 7 ∗ emp) = Φ 7 := BI.equiv_iff.mp ⟨(sep_emp (PROP := sProp 𝕄)).1, (sep_emp (PROP := sProp 𝕄)).2⟩
  show _ = iprop(Φ 0 ∗ Φ 1 ∗ Φ 2 ∗ Φ 3 ∗ Φ 4 ∗ Φ 5 ∗ Φ 6 ∗ Φ 7 ∗ emp)
  rw [e]
  rfl

/-- A loop from its steps: `A` consumed and `B` left at each element, `I` carried along. -/
theorem each_run {α : Type} (c : Dev nD) (f : α → BodyProg F PUnit) (P : sProp 𝕄) [BI.Persistent P] (A B : α → sProp 𝕄)
    (I : List α → sProp 𝕄)
    (step : ∀ (a : α) (l : List α) (Q : PUnit → sProp 𝕄),
      iprop(P ∗ A a ∗ I (a :: l) ∗ ((B a ∗ I l) -∗ Q ⟨⟩)) ⊢ WP c (f a) Q) :
    ∀ (l : List α) (Q : PUnit → sProp 𝕄),
      iprop(P ∗ sepL l A ∗ I l ∗ ((sepL l B ∗ I []) -∗ Q ⟨⟩)) ⊢ WP c (each l f) Q
  | [], Q => by
    show _ ⊢ wp frame _ _ (pure ⟨⟩) Q
    rw [Prog.pure_eq_ret, wp_ret]
    iintro ⟨-, -, HI, Hk⟩
    imodintro
    iapply Hk
    isplitr; · unfold sepL; iempintro
    iexact HI
  | a :: l, Q => by
    show _ ⊢ wp frame _ _ (f a >>= fun _ => each l f) Q
    rw [wp_bind]
    unfold sepL
    iintro ⟨#HP, ⟨HA, HL⟩, HI, Hk⟩
    iapply (step a l)
    isplitr; · iexact HP
    isplitl [HA]; · iexact HA
    isplitl [HI]; · iexact HI
    iintro ⟨HB, HI⟩
    iapply (each_run c f P A B I step l)
    isplitr; · iexact HP
    isplitl [HL]; · iexact HL
    isplitl [HI]; · iexact HI
    iintro ⟨HBs, HI⟩
    iapply Hk
    isplitl [HB HBs]
    · isplitl [HB]; · iexact HB
      iexact HBs
    iexact HI

/-! ## The pairs -/

section Pairs

variable (κ : GSem nD τ sig → ℕ) (c : Dev nD)

/-- What a pair's send needs. -/
def pairNeed (j : Fin 8) : sProp 𝕄 :=
  iprop(any (F := F) c (pairS (hf c) j) ∗ any (F := F) (yp c) (pairS (hf c) j)
    ∗ dutyTok ER (dCell c (sendY j)) 0 false ∗ reached ER (dCell c (sendY j)) 0
    ∗ dutyTok ER (dCell (yp c) (recvY j)) 0 false ∗ reached ER (dCell (yp c) (recvY j)) 0)

theorem recvY_ge (j : Fin 8) : 6 ≤ (recvY j).val := by revert j; decide
theorem sendY_ge (j : Fin 8) : 6 ≤ (sendY j).val := by revert j; decide

theorem pairStep_run (j : Fin 8) (l : List (Fin 8)) (Q : PUnit → sProp 𝕄) :
    iprop(records m κ ∗ pairNeed c j ∗ owe c (owedY c (j :: l))
        ∗ ((cred (tallyAt (dCell c (sendY j)) () Np) ∗ owe c (owedY c l)) -∗ Q ⟨⟩))
      ⊢ WP c (pairStep (hf c) (fun _ => yp c) (headOf m c) j) Q := by
  unfold pairStep pairNeed any
  simp only [Prog.lift, Prog.bind_op, Prog.bind_ret, Prog.pure_eq_ret]
  iintro ⟨#Hrec, ⟨⟨%f, Hb⟩, ⟨%g, Hp⟩, Ht, #Hr, Ht', #Hr'⟩, HO, Hk⟩
  iapply (wp_load_rect 𝒱₀ (c : Thread nD τ) none Set.univ (m := oM) (r := headR (hf c) j 0) (head_subset _ _ _)) $$ Hb; iintro Hb
  iapply (wp_store 𝒱₀ (c : Thread nD τ) none Set.univ (m := oM) (r := headR (hf c) j 0) (Mk := Finset.univ) (head_subset _ _ _)) $$ Hb; iintro Hb
  iapply (wp_load_rect 𝒱₀ (c : Thread nD τ) none Set.univ (m := oM) (r := headR (hf c) j 1) (head_subset _ _ _)) $$ Hb; iintro Hb
  iapply (wp_store 𝒱₀ (c : Thread nD τ) none Set.univ (m := oM) (r := headR (hf c) j 1) (Mk := Finset.univ) (head_subset _ _ _)) $$ Hb; iintro Hb
  ihave Hb := (Entails.of_eq (pointsTo_congr (stored_pair m c j f))) $$ Hb
  iapply (send_dma m κ c (yp c) (sendY j) (recvY j) (sendY_ge j) (recvY_ge j) (N := Np) (src := pairS (hf c) j) (dst := pairS (hf c) j)
    (oVal m c) g rfl (amt_sendY j) (amt_recvY j) (owedY c l)
    (by rw [dmaPay_sendY]; exact .rfl)
    (by rw [dmaPay_recvY, yp_yp]; unfold payPair at_; rw [oVal_yp]; exact Entails.of_eq (pointsTo_congr (copied_pair (hf c) j g (oVal m c)))))
    $$ [Hb Hp HO Ht Ht']
  · isplitr; · iexact Hrec
    isplitl [Hb]; · iexact Hb
    isplitl [Hp]; · iexact Hp
    isplitl [HO]; · iexact HO
    isplitl [Ht]; · iexact Ht
    isplitr; · iexact Hr
    isplitl [Ht']; · iexact Ht'
    iexact Hr'
  iintro ⟨Hc, HO⟩
  iapply (ret_run c)
  iapply Hk
  isplitl [Hc]; · iexact Hc
  iexact HO

/-- What a pair's waits need, and what they leave. -/
def pairWaits (j : Fin 8) : sProp 𝕄 :=
  iprop(cred (tallyAt (dCell c (sendY j)) () Np) ∗ cred (tallyAt (dCell c (recvY j)) () Np)
    ∗ atPos ER (dCell c (sendY j)) 0 ∅ 0 ∗ atPos ER (dCell c (recvY j)) 0 ∅ 0)
def pairDone (j : Fin 8) : sProp 𝕄 :=
  iprop((semVal (dCell c (sendY j)) 0 ∗ semVal (dCell c (recvY j)) 0) ∗ payPair m c (hf c) j ∗ payPair m c (hf (yp c)) j)

theorem pairWait_run (j : Fin 8) (Q : PUnit → sProp 𝕄) :
    iprop((records m κ ∗ levAts L lv) ∗ pairWaits c j ∗ owe c 0 ∗ ((pairDone m c j ∗ owe c 0) -∗ Q ⟨⟩))
      ⊢ WP c (pairWait (hf c) j) Q := by
  unfold pairWait pairWaits
  simp only [Prog.lift, Prog.bind_op, Prog.bind_ret, Prog.pure_eq_ret]
  iintro ⟨⟨#Hrec, #Hlev⟩, ⟨Hc, Hc', Ha, Ha'⟩, HO, Hk⟩
  iapply (wait_dma m κ c (sendY j) (sendY_ge j) (n := 3) (lv_le _) (above_zero _) (dst := pairS (hf c) j) rfl (amt_sendY j)) $$ [Hc HO Ha]
  · isplitr; · iexact Hrec
    isplitr; · iexact Hlev
    isplitl [Hc]; · iexact Hc
    isplitl [HO]; · iexact HO
    iexact Ha
  iintro ⟨HO, Hz, Hp⟩
  iapply (wait_dma m κ c (recvY j) (recvY_ge j) (n := 3) (lv_le _) (above_zero _) (dst := pairS (hf c) j) rfl (amt_recvY j)) $$ [Hc' HO Ha']
  · isplitr; · iexact Hrec
    isplitr; · iexact Hlev
    isplitl [Hc']; · iexact Hc'
    isplitl [HO]; · iexact HO
    iexact Ha'
  iintro ⟨HO, Hz', Hp'⟩
  iapply (ret_run c)
  iapply Hk
  unfold pairDone
  isplitr [HO]
  · isplitl [Hz Hz']
    · isplitl [Hz]; · iexact Hz
      iexact Hz'
    isplitl [Hp]
    · iapply (Entails.of_eq (dmaPay_sendY m c j)) $$ Hp
    · iapply (Entails.of_eq (dmaPay_recvY m c j)) $$ Hp'
  iexact HO

end Pairs

/-! ## The branch -/

section Half

variable (κ : GSem nD τ sig → ℕ) (c : Dev nD)

theorem lv_low (s : DmaSem sig) (hs : s.val < 10) : lv (dCell c s) () ≤ 2 := by
  show (if s.val = 8 ∨ s.val = 9 then 2 else if 18 ≤ s.val ∧ s.val < 26 then 3 else 0) ≤ 2
  split
  · exact Nat.le_refl 2
  · rw [if_neg (by omega)]; exact Nat.zero_le 2

/-- The barrier's wait and the two sends along the first axis. -/
theorem exchange_run (Q : PUnit → sProp 𝕄) :
    iprop(records m κ ∗ levAts L lv ∗ atPos ER (barCell c) 0 ∅ 0 ∗ cred (tallyAt (barCell c) () 2) ∗ owe c (O2 c)
        ∗ payLatent m c ∗ payUp m c
        ∗ (dutyTok ER (dCell c (sendX 0)) 0 false ∗ dutyTok ER (dCell c (sendX 1)) 0 false
          ∗ dutyTok ER (dCell (xp c) (recvX 0)) 0 false ∗ dutyTok ER (dCell (xp c) (recvX 1)) 0 false)
        ∗ (reached ER (dCell c (sendX 0)) 0 ∗ reached ER (dCell c (sendX 1)) 0)
        ∗ ((semVal (barCell c) 0 ∗ barPayY c ∗ owe c (owedY c pairs)
            ∗ cred (tallyAt (dCell c (sendX 0)) () Nc) ∗ cred (tallyAt (dCell c (sendX 1)) () Nu)) -∗ Q ⟨⟩))
      ⊢ WP c (exchange (hf c) (xp c) (xp c)) Q := by
  unfold exchange payLatent payUp
  simp only [semWaitWord, Prog.lift, Prog.bind_op, Prog.bind_ret, Prog.pure_eq_ret]
  iintro ⟨#Hrec, #Hlev, Hat, Hcr, ⟨%W, HO⟩, Hc, Hu, ⟨Ht0, Ht1, Ht2, Ht3⟩, ⟨#Hr0, #Hr1⟩, Hk⟩
  ihave #HI := (inv_bar m κ c) $$ Hrec
  iapply (Rounds.wp_wait_rest_token 𝒱₀ ER (Rd m) (c : Thread nD τ) none (κ := κ (barCell c))
      (wpE_semWait_eq 𝒱₀ (c : Thread nD τ) none Set.univ) (Set.mem_univ _) () (O := O2 c) (W := W) (R := 0) (m := 0) (T := ∅)
      ((Nat.zero_add _).trans (expect_bar m c).symm)) $$ [Hcr HO Hat]
  · isplitr; · iexact HI
    isplitl [Hcr]; · iexact Hcr
    isplitl [HO]; · iexact HO
    isplitr; · iapply (mayWait c (.reg barS) (n := 1) (Nat.le_refl 1) (above_O2 c)); iexact Hlev
    iexact Hat
  iintro ⟨HO, Hat, -, Hpay⟩
  ihave Hp := (Entails.of_eq (rest_bar m c)) $$ Hpay
  imod (close m (κ (barCell c)) (barCell c)) $$ [Hat] with Hz
  · isplitr; · iexact HI
    iexact Hat
  unfold barPayX any
  icases Hp with ⟨⟨⟨%f0, Hd0⟩, ⟨%f1, Hd1⟩, #Hr2, #Hr3⟩, HY⟩
  iapply (send_dma m κ c (xp c) (sendX 0) (recvX 0) (by decide) (by decide) (N := Nc) (src := cM) (dst := crM)
    (cVal m c) f0 rfl rfl rfl (O1 c)
    (by rw [dmaPay_sendX0]; exact .rfl)
    (by rw [dmaPay_recvX0]; unfold payLatentIn; rw [xp_xp]; exact Entails.of_eq (congrArg (at_ (xp c) crM) (View.write_whole_univ _ _ _))))
    $$ [Hc Hd0 HO Ht0 Ht2]
  · isplitr; · iexact Hrec
    isplitl [Hc]; · iexact Hc
    isplitl [Hd0]; · iexact Hd0
    isplitl [HO]; · iexists _; iexact HO
    isplitl [Ht0]; · iexact Ht0
    isplitr; · iexact Hr0
    isplitl [Ht2]; · iexact Ht2
    iexact Hr2
  iintro ⟨Hc0, HO⟩
  iapply (send_dma m κ c (xp c) (sendX 1) (recvX 1) (by decide) (by decide) (N := Nu) (src := ukvS (hf c)) (dst := urM)
    (gUkv m c) f1 rfl rfl rfl (owedY c pairs)
    (by rw [dmaPay_sendX1]; exact .rfl)
    (by rw [dmaPay_recvX1]; unfold payUpIn uVal; rw [xp_xp]; exact Entails.of_eq (congrArg (at_ (xp c) urM) (View.write_whole_univ _ _ _))))
    $$ [Hu Hd1 HO Ht1 Ht3]
  · isplitr; · iexact Hrec
    isplitl [Hu]; · iexact Hu
    isplitl [Hd1]; · iexact Hd1
    isplitl [HO]; · iexact HO
    isplitl [Ht1]; · iexact Ht1
    isplitr; · iexact Hr1
    isplitl [Ht3]; · iexact Ht3
    iexact Hr3
  iintro ⟨Hc1, HO⟩
  iapply (ret_run c)
  iapply Hk
  isplitl [Hz]; · iexact Hz
  isplitl [HY]; · iexact HY
  isplitl [HO]; · iexact HO
  isplitl [Hc0]; · iexact Hc0
  iexact Hc1

/-- The waits of the exchange along the first axis. -/
theorem exchangeWait_run (Q : PUnit → sProp 𝕄) :
    iprop(records m κ ∗ levAts L lv ∗ owe c (owedY c pairs)
        ∗ (cred (tallyAt (dCell c (sendX 0)) () Nc) ∗ cred (tallyAt (dCell c (sendX 1)) () Nu)
          ∗ cred (tallyAt (dCell c (recvX 0)) () Nc) ∗ cred (tallyAt (dCell c (recvX 1)) () Nu))
        ∗ (atPos ER (dCell c (sendX 0)) 0 ∅ 0 ∗ atPos ER (dCell c (sendX 1)) 0 ∅ 0
          ∗ atPos ER (dCell c (recvX 0)) 0 ∅ 0 ∗ atPos ER (dCell c (recvX 1)) 0 ∅ 0)
        ∗ ((owe c (owedY c pairs) ∗ (payLatent m c ∗ payUp m c ∗ payLatentIn m c ∗ payUpIn m c)
            ∗ semVal (dCell c (sendX 0)) 0 ∗ semVal (dCell c (sendX 1)) 0
            ∗ semVal (dCell c (recvX 0)) 0 ∗ semVal (dCell c (recvX 1)) 0) -∗ Q ⟨⟩))
      ⊢ WP c (exchangeWait (hf c)) Q := by
  unfold exchangeWait
  simp only [Prog.lift, Prog.bind_op, Prog.bind_ret, Prog.pure_eq_ret]
  iintro ⟨#Hrec, #Hlev, HO, ⟨Hc0, Hc1, Hc2, Hc3⟩, ⟨Ha0, Ha1, Ha2, Ha3⟩, Hk⟩
  iapply (wait_dma m κ c (sendX 0) (by decide) (n := 2) (lv_low c _ (by decide)) (above_owedY c pairs) (dst := cM) (N := Nc) rfl rfl) $$ [Hc0 HO Ha0]
  · isplitr; · iexact Hrec
    isplitr; · iexact Hlev
    isplitl [Hc0]; · iexact Hc0
    isplitl [HO]; · iexact HO
    iexact Ha0
  iintro ⟨HO, Hz0, Hp0⟩
  iapply (wait_dma m κ c (recvX 0) (by decide) (n := 2) (lv_low c _ (by decide)) (above_owedY c pairs) (dst := crM) (N := Nc) rfl rfl) $$ [Hc2 HO Ha2]
  · isplitr; · iexact Hrec
    isplitr; · iexact Hlev
    isplitl [Hc2]; · iexact Hc2
    isplitl [HO]; · iexact HO
    iexact Ha2
  iintro ⟨HO, Hz2, Hp2⟩
  iapply (wait_dma m κ c (sendX 1) (by decide) (n := 2) (lv_low c _ (by decide)) (above_owedY c pairs) (dst := ukvS (hf c)) (N := Nu) rfl rfl) $$ [Hc1 HO Ha1]
  · isplitr; · iexact Hrec
    isplitr; · iexact Hlev
    isplitl [Hc1]; · iexact Hc1
    isplitl [HO]; · iexact HO
    iexact Ha1
  iintro ⟨HO, Hz1, Hp1⟩
  iapply (wait_dma m κ c (recvX 1) (by decide) (n := 2) (lv_low c _ (by decide)) (above_owedY c pairs) (dst := urM) (N := Nu) rfl rfl) $$ [Hc3 HO Ha3]
  · isplitr; · iexact Hrec
    isplitr; · iexact Hlev
    isplitl [Hc3]; · iexact Hc3
    isplitl [HO]; · iexact HO
    iexact Ha3
  iintro ⟨HO, Hz3, Hp3⟩
  iapply (ret_run c)
  iapply Hk
  isplitl [HO]; · iexact HO
  isplitl [Hp0 Hp1 Hp2 Hp3]
  · isplitl [Hp0]; · iapply (Entails.of_eq (dmaPay_sendX0 m c)) $$ Hp0
    isplitl [Hp1]; · iapply (Entails.of_eq (dmaPay_sendX1 m c)) $$ Hp1
    isplitl [Hp2]; · iapply (Entails.of_eq (dmaPay_recvX0 m c)) $$ Hp2
    iapply (Entails.of_eq (dmaPay_recvX1 m c)) $$ Hp3
  isplitl [Hz0]; · iexact Hz0
  isplitl [Hz1]; · iexact Hz1
  isplitl [Hz2]; · iexact Hz2
  iexact Hz3

/-- A whole buffer's region is the buffer. -/
theorem at_whole (b : Ref sig .tc) (f : Buf (Elt F) ((c : Thread nD τ).loc b)) :
    (at_ c (Memref.whole b) f : sProp 𝕄) = ((c : Thread nD τ).loc b ↦{fullShare} f) := by
  unfold at_
  simp only [Memref.view_whole, View.set_whole]

/-- A list of pairs' needs from the lists of their parts. -/
theorem pairNeed_intro (l : List (Fin 8)) :
    iprop(sepL l (fun j => any (F := F) c (pairS (hf c) j)) ∗ sepL l (fun j => any (F := F) (yp c) (pairS (hf c) j))
        ∗ sepL l (fun j => (dutyTok ER (dCell c (sendY j)) 0 false : sProp 𝕄)) ∗ sepL l (fun j => (reached ER (dCell c (sendY j)) 0 : sProp 𝕄))
        ∗ sepL l (fun j => (dutyTok ER (dCell (yp c) (recvY j)) 0 false : sProp 𝕄)) ∗ sepL l (fun j => (reached ER (dCell (yp c) (recvY j)) 0 : sProp 𝕄)))
      ⊢ sepL l (pairNeed (F := F) c) :=
  (sep_mono_right ((sep_mono_right ((sep_mono_right ((sep_mono_right (sepL_sep _ _ l)).trans (sepL_sep _ _ l))).trans
    (sepL_sep _ _ l))).trans (sepL_sep _ _ l))).trans (sepL_sep _ _ l)

theorem pairWaits_intro (l : List (Fin 8)) :
    iprop(sepL l (fun j => (cred (tallyAt (dCell c (sendY j)) () Np) : sProp 𝕄)) ∗ sepL l (fun j => (cred (tallyAt (dCell c (recvY j)) () Np) : sProp 𝕄))
        ∗ sepL l (fun j => (atPos ER (dCell c (sendY j)) 0 ∅ 0 : sProp 𝕄)) ∗ sepL l (fun j => (atPos ER (dCell c (recvY j)) 0 ∅ 0 : sProp 𝕄)))
      ⊢ sepL l (pairWaits (F := F) c) :=
  (sep_mono_right ((sep_mono_right (sepL_sep _ _ l)).trans (sepL_sep _ _ l))).trans (sepL_sep _ _ l)

theorem pairDone_elim (l : List (Fin 8)) :
    sepL l (pairDone m c)
      ⊢ iprop((sepL l (fun j => (semVal (dCell c (sendY j)) 0 : sProp 𝕄)) ∗ sepL l (fun j => (semVal (dCell c (recvY j)) 0 : sProp 𝕄)))
        ∗ sepL l (payPair m c (hf c)) ∗ sepL l (payPair m c (hf (yp c)))) :=
  (sepL_split _ _ l).trans (BI.sep_mono (sepL_split _ _ l) (sepL_split _ _ l))

/-- The up-projection's buffer: this device's half of it, and the rest. -/
theorem split_u (f : Buf (Elt F) ((c : Thread nD τ).loc cc0_stg2_0)) :
    (((c : Thread nD τ).loc cc0_stg2_0 ↦{fullShare} f) : sProp 𝕄)
      = iprop(at_ c (ukvS (hf c)) f ∗ ((c : Thread nD τ).loc cc0_stg2_0 ↦[Finset.univ \ (ukvS (hf c)).view.set]{fullShare} f)) :=
  have h : (((c : Thread nD τ).loc cc0_stg2_0 ↦{fullShare} f) : sProp 𝕄)
      ⊣⊢ iprop(at_ c (ukvS (hf c)) f ∗ ((c : Thread nD τ).loc cc0_stg2_0 ↦[Finset.univ \ (ukvS (hf c)).view.set]{fullShare} f)) :=
    pointsTo_split_subset (Finset.subset_univ _)
  BI.equiv_iff.mp ⟨h.1, h.2⟩

theorem zero2 : (![0, 0] : Fin 2 → Nat) = fun _ => 0 := by decide

/-- The heads from what the body loads. -/
theorem loaded :
    headVals (k0_pay86 (gX m c)) (k0_pay87 (gDkv m c)) ((wqM.access (wqR (hf c))).read (Elt F) (gWq m c))
      ((wqrM.access (wqrR (hf c))).read (Elt F) (gWqr m c))
      (cM.view.readAt (Elt F) (Rect.unit (s := S512x64) ![0, 0] S512x64.size inb_S512x64_S512x64_0_0).toLoadRect (cVal m c))
      (crM.view.readAt (Elt F) (Rect.unit (s := S512x64) ![0, 0] S512x64.size inb_S512x64_S512x64_0_0).toLoadRect (cVal m (xp c)))
      ((ukvM.access (ukvR (hf c))).read (Elt F) (gUkv m c))
      (urM.view.readAt (Elt F) (Rect.unit (s := S128x512) ![0, 0] S128x512.size inb_S128x512_S128x512_0_0).toLoadRect (uVal m (xp c)))
      = headOf m c := by
  have e0 : cM.view.readAt (Elt F) (Rect.unit (s := S512x64) ![0, 0] S512x64.size inb_S512x64_S512x64_0_0).toLoadRect (cVal m c) = cVal m c :=
    Memref.readAt_unit_zero (Elt F) cc0_scratch0 zero2 _ _
  have e1 : crM.view.readAt (Elt F) (Rect.unit (s := S512x64) ![0, 0] S512x64.size inb_S512x64_S512x64_0_0).toLoadRect (cVal m (xp c)) = cVal m (xp c) :=
    Memref.readAt_unit_zero (Elt F) cc0_scratch1 zero2 _ _
  have e2 : urM.view.readAt (Elt F) (Rect.unit (s := S128x512) ![0, 0] S128x512.size inb_S128x512_S128x512_0_0).toLoadRect (uVal m (xp c)) = uVal m (xp c) :=
    Memref.readAt_unit_zero (Elt F) cc0_scratch2 zero2 _ _
  rw [e0, e1, e2]
  rfl

/-- A branch. -/
theorem half_run (Q : PUnit → sProp 𝕄) :
    iprop(records m κ ∗ levAts L lv
        ∗ (atPos ER (barCell c) 0 ∅ 0 ∗ cred (tallyAt (barCell c) () 2) ∗ owe c (O2 c))
        ∗ (((c : Thread nD τ).loc cc0_stg2_0 ↦{fullShare} gUkv m c) ∗ ((c : Thread nD τ).loc cc0_stg3_0 ↦{fullShare} gWq m c)
          ∗ ((c : Thread nD τ).loc cc0_stg4_0 ↦{fullShare} gWqr m c) ∗ payLatent m c)
        ∗ (dutyTok ER (dCell c (sendX 0)) 0 false ∗ dutyTok ER (dCell c (sendX 1)) 0 false
          ∗ dutyTok ER (dCell (xp c) (recvX 0)) 0 false ∗ dutyTok ER (dCell (xp c) (recvX 1)) 0 false)
        ∗ (reached ER (dCell c (sendX 0)) 0 ∗ reached ER (dCell c (sendX 1)) 0)
        ∗ (cred (tallyAt (dCell c (recvX 0)) () Nc) ∗ cred (tallyAt (dCell c (recvX 1)) () Nu))
        ∗ (atPos ER (dCell c (sendX 0)) 0 ∅ 0 ∗ atPos ER (dCell c (sendX 1)) 0 ∅ 0
          ∗ atPos ER (dCell c (recvX 0)) 0 ∅ 0 ∗ atPos ER (dCell c (recvX 1)) 0 ∅ 0)
        ∗ (sepL pairs (fun j => any (F := F) c (pairS (hf c) j))
          ∗ sepL pairs (fun j => (dutyTok ER (dCell c (sendY j)) 0 false : sProp 𝕄)) ∗ sepL pairs (fun j => (reached ER (dCell c (sendY j)) 0 : sProp 𝕄))
          ∗ sepL pairs (fun j => (dutyTok ER (dCell (yp c) (recvY j)) 0 false : sProp 𝕄))
          ∗ sepL pairs (fun j => (cred (tallyAt (dCell c (recvY j)) () Np) : sProp 𝕄))
          ∗ sepL pairs (fun j => (atPos ER (dCell c (sendY j)) 0 ∅ 0 : sProp 𝕄)) ∗ sepL pairs (fun j => (atPos ER (dCell c (recvY j)) 0 ∅ 0 : sProp 𝕄)))
        ∗ (((((c : Thread nD τ).loc cc0_stg2_0 ↦{fullShare} gUkv m c) ∗ ((c : Thread nD τ).loc cc0_stg3_0 ↦{fullShare} gWq m c)
            ∗ ((c : Thread nD τ).loc cc0_stg4_0 ↦{fullShare} gWqr m c))
            ∗ (payLatent m c ∗ payLatentIn m c ∗ payUpIn m c ∗ ((c : Thread nD τ).loc cc0_scratch3 ↦{fullShare} oVal m c))
            ∗ owe c 0 ∗ semVal (barCell c) 0
            ∗ (semVal (dCell c (sendX 0)) 0 ∗ semVal (dCell c (sendX 1)) 0 ∗ semVal (dCell c (recvX 0)) 0 ∗ semVal (dCell c (recvX 1)) 0)
            ∗ sepL pairs (fun j => (semVal (dCell c (sendY j)) 0 : sProp 𝕄)) ∗ sepL pairs (fun j => (semVal (dCell c (recvY j)) 0 : sProp 𝕄)))
          -∗ Q ⟨⟩))
      ⊢ WP c (half (hf c) (xp c) (xp c) (fun _ => yp c) (k0_pay86 (gX m c)) (k0_pay87 (gDkv m c))) Q := by
  unfold half
  rw [split_u]
  iintro ⟨#Hrec, #Hlev, ⟨Hba, Hbc, HO⟩, ⟨⟨Hu, Hu'⟩, Hwq, Hwqr, Hc⟩, HtX, HrX, ⟨Hc2, Hc3⟩, Ha, ⟨Hob, HtY, HrY, HtY', HcY, HaS, HaR⟩, Hk⟩
  iapply (bind_run c)
  iapply (exchange_run m κ c)
  isplitr; · iexact Hrec
  isplitr; · iexact Hlev
  isplitl [Hba]; · iexact Hba
  isplitl [Hbc]; · iexact Hbc
  isplitl [HO]; · iexact HO
  isplitl [Hc]; · iexact Hc
  isplitl [Hu]; · unfold payUp; iexact Hu
  isplitl [HtX]; · iexact HtX
  isplitl [HrX]; · iexact HrX
  iintro ⟨Hbz, HbY, HO, Hc0, Hc1⟩
  simp only [Prog.lift, Prog.bind_op, Prog.bind_ret, Prog.pure_eq_ret]
  iapply (wp_load_rect 𝒱₀ (c : Thread nD τ) none Set.univ (m := wqM) (r := wqR (hf c)) (Finset.subset_univ _)) $$ Hwq; iintro Hwq
  iapply (wp_load_rect 𝒱₀ (c : Thread nD τ) none Set.univ (m := wqrM) (r := wqrR (hf c)) (Finset.subset_univ _)) $$ Hwqr; iintro Hwqr
  iapply (bind_run c)
  iapply (exchangeWait_run m κ c)
  isplitr; · iexact Hrec
  isplitr; · iexact Hlev
  isplitl [HO]; · iexact HO
  isplitl [Hc0 Hc1 Hc2 Hc3]
  · isplitl [Hc0]; · iexact Hc0
    isplitl [Hc1]; · iexact Hc1
    isplitl [Hc2]; · iexact Hc2
    iexact Hc3
  isplitl [Ha]; · iexact Ha
  unfold payLatent payUp payLatentIn payUpIn
  iintro ⟨HO, ⟨Hc, Hu, Hcr, Hur⟩, HzX⟩
  simp only [Prog.lift, Prog.bind_op, Prog.bind_ret, Prog.pure_eq_ret]
  iapply (wp_load 𝒱₀ (c : Thread nD τ) none Set.univ (m := cM) (S := cM.view.set) (View.setOn_subset_set _ _)) $$ Hc; iintro Hc
  iapply (wp_load 𝒱₀ (c : Thread nD τ) none Set.univ (m := crM) (S := crM.view.set) (View.setOn_subset_set _ _)) $$ Hcr; iintro Hcr
  iapply (wp_load_rect 𝒱₀ (c : Thread nD τ) none Set.univ (m := ukvM) (r := ukvR (hf c)) (S := (ukvS (hf c)).view.set) (Finset.Subset.refl _)) $$ Hu; iintro Hu
  iapply (wp_load 𝒱₀ (c : Thread nD τ) none Set.univ (m := urM) (S := urM.view.set) (View.setOn_subset_set _ _)) $$ Hur; iintro Hur
  rw [loaded m c]
  iapply (bind_run c)
  unfold barPayY
  rw [sepL_pairs, sepL_pairs]
  icases HbY with ⟨HbY, HrY'⟩
  iapply (each_run c _ (records m κ) (pairNeed c) (fun j => cred (tallyAt (dCell c (sendY j)) () Np)) (fun l => owe c (owedY c l))
    (pairStep_run m κ c))
  isplitr; · iexact Hrec
  isplitl [Hob HbY HtY HrY HtY' HrY']
  · iapply (pairNeed_intro c pairs)
    isplitl [Hob]; · iexact Hob
    isplitl [HbY]; · iexact HbY
    isplitl [HtY]; · iexact HtY
    isplitl [HrY]; · iexact HrY
    isplitl [HtY']; · iexact HtY'
    iexact HrY'
  isplitl [HO]; · iexact HO
  iintro ⟨HcS, HO⟩
  iapply (each_run c _ iprop(records m κ ∗ levAts L lv) (pairWaits c) (pairDone m c) (fun _ => owe c 0)
    (fun j _ Q => pairWait_run m κ c j Q))
  isplitr
  · isplitr; · iexact Hrec
    iexact Hlev
  isplitl [HcS HcY HaS HaR]
  · iapply (pairWaits_intro c pairs)
    isplitl [HcS]; · iexact HcS
    isplitl [HcY]; · iexact HcY
    isplitl [HaS]; · iexact HaS
    iexact HaR
  isplitl [HO]; · iexact HO
  iintro ⟨Hd, HO⟩
  ihave Hd := (pairDone_elim m c pairs) $$ Hd
  icases Hd with ⟨⟨HzS, HzR⟩, Ho, Ho'⟩
  iapply Hk
  isplitl [Hu Hu' Hwq Hwqr]
  · isplitl [Hu Hu']
    · isplitl [Hu]; · iexact Hu
      iexact Hu'
    isplitl [Hwq]; · iexact Hwq
    iexact Hwqr
  isplitl [Hc Hcr Hur Ho Ho']
  · isplitl [Hc]; · iexact Hc
    isplitl [Hcr]; · iexact Hcr
    isplitl [Hur]; · iexact Hur
    rw [split_o]
    unfold halfPts
    rw [sepL_pairs, sepL_pairs]
    unfold payPair
    isplitl [Ho]; · iexact Ho
    iexact Ho'
  isplitl [HO]; · iexact HO
  isplitl [Hbz]; · iexact Hbz
  isplitl [HzX]; · iexact HzX
  isplitl [HzS]; · iexact HzS
  iexact HzR

end Half

/-! ## The output projection -/

section Out

variable (κ : GSem nD τ sig → ℕ) (c : Dev nD)

theorem outS_ge (b : Fin 2) : 6 ≤ (outS b).val := by revert b; decide

theorem outMul_run (b : Fin 2) (Q : FVec F S256x1024 .bf16 → sProp 𝕄) :
    iprop(((c : Thread nD τ).loc cc0_scratch3 ↦{fullShare} oVal m c) ∗ ((c : Thread nD τ).loc cc0_stg5_0 ↦{fullShare} gWo m c)
        ∗ ((((c : Thread nD τ).loc cc0_scratch3 ↦{fullShare} oVal m c) ∗ ((c : Thread nD τ).loc cc0_stg5_0 ↦{fullShare} gWo m c))
          -∗ Q (projOf m c b)))
      ⊢ WP c (outMul b) Q := by
  unfold outMul
  simp only [Prog.lift, Prog.bind_op, Prog.bind_ret, Prog.pure_eq_ret]
  iintro ⟨Ho, Hw, Hk⟩
  iapply (wp_load_rect 𝒱₀ (c : Thread nD τ) none Set.univ (m := oM) (r := rowsR b) (Finset.subset_univ _)) $$ Ho; iintro Ho
  iapply (wp_load 𝒱₀ (c : Thread nD τ) none Set.univ (m := woM) (Finset.subset_univ _)) $$ Hw; iintro Hw
  rw [show woM.view.readAt (Elt F) (Rect.unit (s := S1024x1024) ![0, 0] S1024x1024.size inb_S1024x1024_S1024x1024_0_0).toLoadRect (gWo m c) = gWo m c
    from Memref.readAt_unit_zero (Elt F) cc0_stg5_0 zero2 _ _]
  iapply (ret_run c (projOf m c b))
  iapply Hk
  isplitl [Ho]; · iexact Ho
  iexact Hw

theorem outStep_run (b : Fin 2) (Q : PUnit → sProp 𝕄) :
    iprop(records m κ ∗ any (F := F) c (ovS b) ∗ any (F := F) c (resS b)
        ∗ dutyTok ER (dCell c (outS b)) 0 false ∗ reached ER (dCell c (outS b)) 0
        ∗ (cred (tallyAt (dCell c (outS b)) () No) -∗ Q ⟨⟩))
      ⊢ WP c (outStep b (projOf m c b)) Q := by
  unfold outStep any
  simp only [Prog.lift, Prog.bind_op, Prog.bind_ret, Prog.pure_eq_ret]
  iintro ⟨#Hrec, ⟨%f, Hv⟩, ⟨%g, Hr⟩, Ht, #Hre, Hk⟩
  have hsub : (ovM.access (batR b)).set ⊆ (ovS b).view.set := by rw [bat_set, ov_set]
  have hge := outS_ge b
  ihave #HI := (inv_dma m κ c (outS b) hge) $$ Hrec
  iapply (wp_load_rect 𝒱₀ (c : Thread nD τ) none Set.univ (m := ovM) (r := batR b) hsub) $$ Hv; iintro Hv
  iapply (wp_store 𝒱₀ (c : Thread nD τ) none Set.univ (m := ovM) (r := batR b) (Mk := Finset.univ) hsub) $$ Hv; iintro Hv
  ihave Hv := (Entails.of_eq (pointsTo_congr (stored_batch m c b f))) $$ Hv
  iapply (Rounds.wp_copy_pointsTo 𝒱₀ ER (Rd m) (c : Thread nD τ) none (src := ovS b) (dst := resS b) (sem := .dma (outS b))
      (q := fullShare) (fs := outVal m c) (fd := g) (r := 0) (d := false) (κ := κ (dCell c (outS b)))
      (by rw [duties_dma m c _ hge]; exact Finset.mem_singleton_self _) () No rfl ((amount_dma m c (outS b) false).trans (amt_outS b))
      (by
        rw [payload_dma, dmaPay_outS]; unfold payOut at_
        exact sep_mono_left (Entails.of_eq (pointsTo_congr (copied_batch b g (outVal m c)))))) $$ [Hv Hr Ht]
  · isplitr; · iexact HI
    isplitl [Hv]; · iexact Hv
    isplitl [Hr]; · iexact Hr
    isplitl [Ht]; · iexact Ht
    iexact Hre
  iintro Hc
  iapply (ret_run c)
  iapply Hk
  iexact Hc

theorem outWait_run (b : Fin 2) (Q : PUnit → sProp 𝕄) :
    iprop(records m κ ∗ levAts L lv ∗ cred (tallyAt (dCell c (outS b)) () No) ∗ owe c 0 ∗ atPos ER (dCell c (outS b)) 0 ∅ 0
        ∗ ((owe c 0 ∗ semVal (dCell c (outS b)) 0 ∗ payOut m c b) -∗ Q ⟨⟩))
      ⊢ WP c (outWait b) Q := by
  unfold outWait
  simp only [Prog.lift]
  have hge := outS_ge b
  iintro ⟨#Hrec, #Hlev, Hc, HO, Ha, Hk⟩
  iapply (wait_dma m κ c (outS b) hge (n := 3) (lv_le _) (above_zero _) (dst := resS b) rfl (amt_outS b)) $$ [Hc HO Ha]
  · isplitr; · iexact Hrec
    isplitr; · iexact Hlev
    isplitl [Hc]; · iexact Hc
    isplitl [HO]; · iexact HO
    iexact Ha
  iintro ⟨HO, Hz, Hp⟩
  iapply (ret_run c)
  iapply Hk
  isplitl [HO]; · iexact HO
  isplitl [Hz]; · iexact Hz
  iapply (Entails.of_eq (dmaPay_outS m c b)) $$ Hp

end Out

/-! ## The whole body -/

section Whole

variable (κ : GSem nD τ sig → ℕ) (c : Dev nD)

/-- The kernel's own semaphores one by one, the pairs' as lists. -/
def fam (Φ : DmaSem sig → sProp 𝕄) : sProp 𝕄 :=
  iprop((Φ (sendX 0) ∗ Φ (sendX 1) ∗ Φ (recvX 0) ∗ Φ (recvX 1)) ∗ sepL pairs (fun j => Φ (sendY j)) ∗ sepL pairs (fun j => Φ (recvY j))
    ∗ (Φ (outS 0) ∗ Φ (outS 1)))

/-- The branch the device takes, whichever of the two it is. -/
theorem middle_eq (x : FVec F S512x1024 .bf16) (dkv : FVec F S1024x96 .bf16) (v : FVec F S512x64 .bf16) :
    middle c x dkv v = (do
      let _ : Vec F S512x64 .bf16 ← Prog.lift (.load cM (Rect.unit (s := S512x64) ![0, 0] S512x64.size inb_S512x64_S512x64_0_0).toLoadRect (View.loadsAt_vmem h_S512x64))
      Prog.lift (.store cM (Rect.unit (s := S512x64) ![0, 0] S512x64.size inb_S512x64_S512x64_0_0) (k0_pay89 v) Finset.univ (View.stores_vmem h_S512x64 ((whole_of cc0_scratch0).storeExact_slice rfl _ packedbf16_S512x64_S512x64_0_0) (fun _ => rfl)) (.inl rfl))
      half (hf c) (xp c) (xp c) (fun _ => yp c) x dkv
      let v0 ← outMul 0
      outStep 0 v0
      outMul 1) := by
  unfold middle
  rcases (by omega : (hf c).val = 0 ∨ (hf c).val = 1) with h | h
  · have h : hf c = 0 := Fin.ext h
    rw [h]
    simp only [dif_pos (cond1_zero c h), dif_neg (cond2_zero c h), devX c _ (k0_dev3_eq c), devX c _ (k0_dev4_eq c), dst1_eq c (cond1_zero c h), Prog.pure_eq_ret, Prog.bind_ret]
  · have h : hf c = 1 := Fin.ext h
    rw [h]
    simp only [dif_neg (cond1_one c h), dif_pos (cond2_one c h), devX c _ (k0_dev13_eq c), devX c _ (k0_dev14_eq c), dst2_eq c (cond2_one c h), Prog.pure_eq_ret, Prog.bind_ret]

/-- What the body runs on, besides the records and the levels: the staged inputs, the scratch, the result,
    its own cells' positions, the tokens of what it pays, and the credits of what it waits for. -/
def staged : sProp 𝕄 :=
  iprop(((c : Thread nD τ).loc cc0_stg0_0 ↦{fullShare} gX m c) ∗ ((c : Thread nD τ).loc cc0_stg1_0 ↦{fullShare} gDkv m c)
    ∗ ((c : Thread nD τ).loc cc0_stg2_0 ↦{fullShare} gUkv m c) ∗ ((c : Thread nD τ).loc cc0_stg3_0 ↦{fullShare} gWq m c)
    ∗ ((c : Thread nD τ).loc cc0_stg4_0 ↦{fullShare} gWqr m c) ∗ ((c : Thread nD τ).loc cc0_stg5_0 ↦{fullShare} gWo m c))
/-- The scratch buffers, at anything. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f))
/-- The barrier's share: its position, its credit, the two tokens of the signals. -/
def barShare : sProp 𝕄 :=
  iprop(atPos ER (barCell c) 0 ∅ 0 ∗ cred (tallyAt (barCell c) () 2)
    ∗ dutyTok ER (barCell (xp c)) 0 false ∗ dutyTok ER (barCell (yp c)) 0 true)
/-- The tokens of the copies. -/
def tokens : sProp 𝕄 :=
  iprop((dutyTok ER (dCell c (sendX 0)) 0 false ∗ dutyTok ER (dCell c (sendX 1)) 0 false
      ∗ dutyTok ER (dCell (xp c) (recvX 0)) 0 false ∗ dutyTok ER (dCell (xp c) (recvX 1)) 0 false)
    ∗ sepL pairs (fun j => (dutyTok ER (dCell c (sendY j)) 0 false : sProp 𝕄))
    ∗ sepL pairs (fun j => (dutyTok ER (dCell (yp c) (recvY j)) 0 false : sProp 𝕄))
    ∗ (dutyTok ER (dCell c (outS 0)) 0 false ∗ dutyTok ER (dCell c (outS 1)) 0 false))
/-- The credits of what the partners send. -/
def credits : sProp 𝕄 :=
  iprop((cred (tallyAt (dCell c (recvX 0)) () Nc) ∗ cred (tallyAt (dCell c (recvX 1)) () Nu))
    ∗ sepL pairs (fun j => (cred (tallyAt (dCell c (recvY j)) () Np) : sProp 𝕄)))

theorem any_of_at {sp : Space} {s : Shape} {e : EltTy} (v : Memref sig .tc sp s e) (f : Buf (Elt F) (v.view.loc (c : Thread nD τ))) :
    (at_ c v f : sProp 𝕄) ⊢ any c v := by
  unfold any; iintro H; iexists f; iexact H

/-- The blocks of a half, at anything. -/
theorem half_any (h : Fin 2) (f : Buf (Elt F) ((c : Thread nD τ).loc cc0_scratch3)) :
    halfPts c h f ⊢ sepL pairs (fun j => any (F := F) c (pairS h j)) := by
  unfold halfPts
  rw [sepL_pairs]
  exact sepL_mono (fun j => any_of_at c (pairS h j) f) pairs

/-- What the signal along the second axis hands over. -/
theorem barPayY_intro :
    iprop(sepL pairs (fun j => any (F := F) c (pairS (hf (yp c)) j)) ∗ sepL pairs (fun j => (reached ER (dCell c (recvY j)) 0 : sProp 𝕄)))
      ⊢ (Rd (F := F) m).payload (barCell (yp c)) 0 true := by
  rw [payload_barY]
  unfold barPayY
  rw [yp_yp, sepL_pairs, sepL_pairs]

theorem middle_run (Q : FVec F S256x1024 .bf16 → sProp 𝕄) :
    iprop(records m κ ∗ levAts L lv
        ∗ (atPos ER (barCell c) 0 ∅ 0 ∗ cred (tallyAt (barCell c) () 2) ∗ owe c (O2 c))
        ∗ (((c : Thread nD τ).loc cc0_stg2_0 ↦{fullShare} gUkv m c) ∗ ((c : Thread nD τ).loc cc0_stg3_0 ↦{fullShare} gWq m c)
          ∗ ((c : Thread nD τ).loc cc0_stg4_0 ↦{fullShare} gWqr m c) ∗ ((c : Thread nD τ).loc cc0_stg5_0 ↦{fullShare} gWo m c))
        ∗ ((∃ f : Buf (Elt F) ((c : Thread nD τ).loc cc0_scratch0), (c : Thread nD τ).loc cc0_scratch0 ↦{fullShare} f)
          ∗ sepL pairs (fun j => any (F := F) c (pairS (hf c) j)) ∗ any (F := F) c (ovS 0) ∗ any (F := F) c (resS 0))
        ∗ tokens (F := F) c ∗ credits (F := F) c
        ∗ fam (fun s => (atPos ER (dCell c s) 0 ∅ 0 : sProp 𝕄))
        ∗ ((reached ER (dCell c (sendX 0)) 0 ∗ reached ER (dCell c (sendX 1)) 0)
          ∗ sepL pairs (fun j => (reached ER (dCell c (sendY j)) 0 : sProp 𝕄)) ∗ reached ER (dCell c (outS 0)) 0)
        ∗ (((((c : Thread nD τ).loc cc0_stg2_0 ↦{fullShare} gUkv m c) ∗ ((c : Thread nD τ).loc cc0_stg3_0 ↦{fullShare} gWq m c)
            ∗ ((c : Thread nD τ).loc cc0_stg4_0 ↦{fullShare} gWqr m c) ∗ ((c : Thread nD τ).loc cc0_stg5_0 ↦{fullShare} gWo m c))
            ∗ (payLatent m c ∗ payLatentIn m c ∗ payUpIn m c ∗ ((c : Thread nD τ).loc cc0_scratch3 ↦{fullShare} oVal m c))
            ∗ owe c 0 ∗ semVal (barCell c) 0
            ∗ ((semVal (dCell c (sendX 0)) 0 ∗ semVal (dCell c (sendX 1)) 0 ∗ semVal (dCell c (recvX 0)) 0 ∗ semVal (dCell c (recvX 1)) 0)
              ∗ sepL pairs (fun j => (semVal (dCell c (sendY j)) 0 : sProp 𝕄)) ∗ sepL pairs (fun j => (semVal (dCell c (recvY j)) 0 : sProp 𝕄)))
            ∗ (cred (tallyAt (dCell c (outS 0)) () No) ∗ atPos ER (dCell c (outS 0)) 0 ∅ 0 ∗ atPos ER (dCell c (outS 1)) 0 ∅ 0
              ∗ dutyTok ER (dCell c (outS 1)) 0 false))
          -∗ Q (projOf m c 1)))
      ⊢ WP c (middle c (k0_pay86 (gX m c)) (k0_pay87 (gDkv m c)) (k0_pay88 (gX m c) (gDkv m c))) Q := by
  rw [middle_eq]
  unfold tokens credits fam
  simp only [Prog.lift, Prog.bind_op, Prog.bind_ret, Prog.pure_eq_ret]
  iintro ⟨#Hrec, #Hlev, Hb, ⟨Hu, Hwq, Hwqr, Hwo⟩, ⟨⟨%f, Hc⟩, Hob, Hov, Hres⟩, ⟨HtX, HtS, HtR, ⟨Ht0, Ht1⟩⟩, ⟨HcX, HcY⟩, ⟨HaX, HaS, HaR, ⟨Ha0, Ha1⟩⟩, ⟨HrX, HrS, Hr0⟩, Hk⟩
  iapply (wp_load 𝒱₀ (c : Thread nD τ) none Set.univ (m := cM) (Finset.subset_univ _)) $$ Hc; iintro Hc
  iapply (wp_store 𝒱₀ (c : Thread nD τ) none Set.univ (m := cM) (r := Rect.unit (s := S512x64) ![0, 0] S512x64.size inb_S512x64_S512x64_0_0) (Mk := Finset.univ) (Finset.subset_univ _)) $$ Hc; iintro Hc
  rw [show (cM.access (Rect.unit (s := S512x64) ![0, 0] S512x64.size inb_S512x64_S512x64_0_0)).write (Elt F) f
      (k0_pay89 (k0_pay88 (gX m c) (gDkv m c))) Finset.univ = cVal m c
    from Memref.write_access_unit_zero_univ (Elt F) cc0_scratch0 zero2 _ f _]
  iapply (bind_run c)
  iapply (half_run m κ c)
  isplitr; · iexact Hrec
  isplitr; · iexact Hlev
  isplitl [Hb]; · iexact Hb
  isplitl [Hu Hwq Hwqr Hc]
  · isplitl [Hu]; · iexact Hu
    isplitl [Hwq]; · iexact Hwq
    isplitl [Hwqr]; · iexact Hwqr
    unfold payLatent
    rw [at_whole c cc0_scratch0]
    iexact Hc
  isplitl [HtX]; · iexact HtX
  isplitl [HrX]; · iexact HrX
  isplitl [HcX]; · iexact HcX
  isplitl [HaX]; · iexact HaX
  isplitl [Hob HtS HrS HtR HcY HaS HaR]
  · isplitl [Hob]; · iexact Hob
    isplitl [HtS]; · iexact HtS
    isplitl [HrS]; · iexact HrS
    isplitl [HtR]; · iexact HtR
    isplitl [HcY]; · iexact HcY
    isplitl [HaS]; · iexact HaS
    iexact HaR
  iintro ⟨⟨Hu, Hwq, Hwqr⟩, ⟨Hc, Hcr, Hur, Ho⟩, HO, Hbz, HzX, HzS, HzR⟩
  iapply (bind_run c)
  iapply (outMul_run m c 0)
  isplitl [Ho]; · iexact Ho
  isplitl [Hwo]; · iexact Hwo
  iintro ⟨Ho, Hwo⟩
  iapply (bind_run c)
  iapply (outStep_run m κ c 0)
  isplitr; · iexact Hrec
  isplitl [Hov]; · iexact Hov
  isplitl [Hres]; · iexact Hres
  isplitl [Ht0]; · iexact Ht0
  isplitl [Hr0]; · iexact Hr0
  iintro Hc0
  iapply (outMul_run m c 1)
  isplitl [Ho]; · iexact Ho
  isplitl [Hwo]; · iexact Hwo
  iintro ⟨Ho, Hwo⟩
  iapply Hk
  isplitl [Hu Hwq Hwqr Hwo]
  · isplitl [Hu]; · iexact Hu
    isplitl [Hwq]; · iexact Hwq
    isplitl [Hwqr]; · iexact Hwqr
    iexact Hwo
  isplitl [Hc Hcr Hur Ho]
  · isplitl [Hc]; · iexact Hc
    isplitl [Hcr]; · iexact Hcr
    isplitl [Hur]; · iexact Hur
    iexact Ho
  isplitl [HO]; · iexact HO
  isplitl [Hbz]; · iexact Hbz
  isplitl [HzX HzS HzR]
  · isplitl [HzX]; · iexact HzX
    isplitl [HzS]; · iexact HzS
    iexact HzR
  isplitl [Hc0]; · iexact Hc0
  isplitl [Ha0]; · iexact Ha0
  isplitl [Ha1]; · iexact Ha1
  iexact Ht1

theorem zero3 : (![0, 0, 0] : Fin 3 → Nat) = fun _ => 0 := by decide

/-- The body of device `c`. -/
theorem body_run (Q : PUnit → sProp 𝕄) :
    iprop(records m κ ∗ levAts L lv ∗ barShare (F := F) c ∗ owe c (O₀ c) ∗ staged m c ∗ scratch (F := F) c
        ∗ (∃ f : Buf (Elt F) ((c : Thread nD τ).loc main_v9), (c : Thread nD τ).loc main_v9 ↦{fullShare} f)
        ∗ tokens (F := F) c ∗ credits (F := F) c
        ∗ fam (fun s => (atPos ER (dCell c s) 0 ∅ 0 : sProp 𝕄)) ∗ fam (fun s => (reached ER (dCell c s) 0 : sProp 𝕄))
        ∗ ((owe c 0 ∗ staged m c ∗ scratch (F := F) c ∗ ((c : Thread nD τ).loc main_v9 ↦{fullShare} outVal m c)
            ∗ semVal (barCell c) 0 ∗ fam (fun s => (semVal (dCell c s) 0 : sProp 𝕄))) -∗ Q ⟨⟩))
      ⊢ WP c body Q := by
  unfold body barShare staged scratch
  simp only [semSignalWord, Prog.lift, Prog.bind_op, Prog.bind_ret, Prog.pure_eq_ret, wp_deviceId]
  rw [devX c _ (k0_dev1_eq c), devY c _ (k0_dev2_eq c)]
  iintro ⟨#Hrec, #Hlev, ⟨Hba, Hbc, HtBX, HtBY⟩, ⟨%W, HO⟩, ⟨Hx, Hdkv, Hu, Hwq, Hwqr, Hwo⟩, ⟨Hc, ⟨%f1, Hcr⟩, ⟨%f2, Hur⟩, ⟨%f3, Ho⟩, ⟨%f4, Hov⟩⟩, ⟨%f9, Hres⟩, Htok, Hcred, Hat, Hre, Hk⟩
  unfold fam
  icases Hre with ⟨⟨Hr0, Hr1, Hr2, Hr3⟩, HrS, HrR, ⟨Hr4, Hr5⟩⟩
  ihave Ho := (Entails.of_eq (split_o c f3)) $$ Ho
  ihave Hov := (Entails.of_eq (split_ov c f4)) $$ Hov
  ihave Hres := (Entails.of_eq (split_res c f9)) $$ Hres
  icases Ho with ⟨Ho, Ho'⟩
  icases Hov with ⟨Hov0, Hov1⟩
  icases Hres with ⟨Hres0, Hres1⟩
  ihave #HIx := (inv_bar m κ (xp c)) $$ Hrec
  ihave #HIy := (inv_bar m κ (yp c)) $$ Hrec
  ihave #Hrx := (reached_bar m κ (xp c)) $$ Hrec
  ihave #Hry := (reached_bar m κ (yp c)) $$ Hrec
  iapply (Rounds.wp_signal 𝒱₀ ER (Rd m) (c : Thread nD τ) none (dst := (xp c : Thread nD τ)) (sem := barS) (r := 0) (d := false)
      (κ := κ (barCell (xp c))) (by rw [duties_bar]; decide) ((amount_bar m (xp c) false).trans (by decide)) () (O3 c) rfl) $$ [HO HtBX Hcr Hur Hr2 Hr3]
  · isplitr; · iexact HIx
    isplitl [HO]; · iexact HO
    isplitl [HtBX]; · iexact HtBX
    isplitl [Hcr Hur Hr2 Hr3]
    · rw [payload_barX]
      unfold barPayX any
      rw [xp_xp]
      isplitl [Hcr]
      · iexists f1
        iapply (Entails.of_eq (at_whole c cc0_scratch1 f1).symm) $$ Hcr
      isplitl [Hur]
      · iexists f2
        iapply (Entails.of_eq (at_whole c cc0_scratch2 f2).symm) $$ Hur
      isplitl [Hr2]; · iexact Hr2
      iexact Hr3
    iexact Hrx
  iintro HO
  iapply (Rounds.wp_signal 𝒱₀ ER (Rd m) (c : Thread nD τ) none (dst := (yp c : Thread nD τ)) (sem := barS) (r := 0) (d := true)
      (κ := κ (barCell (yp c))) (by rw [duties_bar]; decide) ((amount_bar m (yp c) true).trans (by decide)) () (O2 c) rfl) $$ [HO HtBY Ho' HrR]
  · isplitr; · iexact HIy
    isplitl [HO]; · iexact HO
    isplitl [HtBY]; · iexact HtBY
    isplitl [Ho' HrR]
    · iapply (barPayY_intro m c)
      isplitl [Ho']
      · iapply (half_any c (hf (yp c)) f3) $$ Ho'
      iexact HrR
    iexact Hry
  iintro HO
  iapply (wp_load 𝒱₀ (c : Thread nD τ) none Set.univ (m := xM) (Finset.subset_univ _)) $$ Hx; iintro Hx
  iapply (wp_load 𝒱₀ (c : Thread nD τ) none Set.univ (m := dkvM) (Finset.subset_univ _)) $$ Hdkv; iintro Hdkv
  rw [show xM.view.readAt (Elt F) (Rect.unit (s := S2x256x1024) ![0, 0, 0] S2x256x1024.size inb_S2x256x1024_S2x256x1024_0_0_0).toLoadRect (gX m c) = gX m c
      from Memref.readAt_unit_zero (Elt F) cc0_stg0_0 zero3 _ _,
    show dkvM.view.readAt (Elt F) (Rect.unit (s := S1024x96) ![0, 0] S1024x96.size inb_S1024x96_S1024x96_0_0).toLoadRect (gDkv m c) = gDkv m c
      from Memref.readAt_unit_zero (Elt F) cc0_stg1_0 zero2 _ _]
  iapply (bind_run c)
  iapply (middle_run m κ c)
  isplitr; · iexact Hrec
  isplitr; · iexact Hlev
  isplitl [Hba Hbc HO]
  · isplitl [Hba]; · iexact Hba
    isplitl [Hbc]; · iexact Hbc
    iexists W; iexact HO
  isplitl [Hu Hwq Hwqr Hwo]
  · isplitl [Hu]; · iexact Hu
    isplitl [Hwq]; · iexact Hwq
    isplitl [Hwqr]; · iexact Hwqr
    iexact Hwo
  isplitl [Hc Ho Hov0 Hres0]
  · isplitl [Hc]; · iexact Hc
    isplitl [Ho]
    · iapply (half_any c (hf c) f3) $$ Ho
    isplitl [Hov0]
    · iapply (any_of_at c (ovS 0) f4) $$ Hov0
    iapply (any_of_at c (resS 0) f9) $$ Hres0
  isplitl [Htok]; · iexact Htok
  isplitl [Hcred]; · iexact Hcred
  isplitl [Hat]; · unfold fam; iexact Hat
  isplitl [Hr0 Hr1 HrS Hr4]
  · isplitl [Hr0 Hr1]
    · isplitl [Hr0]; · iexact Hr0
      iexact Hr1
    isplitl [HrS]; · iexact HrS
    iexact Hr4
  iintro ⟨⟨Hu, Hwq, Hwqr, Hwo⟩, ⟨Hc, Hcr, Hur, Ho⟩, HO, Hbz, ⟨HzX, HzS, HzR⟩, ⟨Hc0, Ha0, Ha1, Ht1⟩⟩
  iapply (bind_run c)
  iapply (outStep_run m κ c 1)
  isplitr; · iexact Hrec
  isplitl [Hov1]; · iapply (any_of_at c (ovS 1) f4) $$ Hov1
  isplitl [Hres1]; · iapply (any_of_at c (resS 1) f9) $$ Hres1
  isplitl [Ht1]; · iexact Ht1
  isplitl [Hr5]; · iexact Hr5
  iintro Hc1
  iapply (bind_run c)
  iapply (outWait_run m κ c 0)
  isplitr; · iexact Hrec
  isplitr; · iexact Hlev
  isplitl [Hc0]; · iexact Hc0
  isplitl [HO]; · iexact HO
  isplitl [Ha0]; · iexact Ha0
  unfold payOut
  iintro ⟨HO, Hz0, ⟨Hres0, Hov0⟩⟩
  iapply (outWait_run m κ c 1)
  isplitr; · iexact Hrec
  isplitr; · iexact Hlev
  isplitl [Hc1]; · iexact Hc1
  isplitl [HO]; · iexact HO
  isplitl [Ha1]; · iexact Ha1
  unfold payOut
  iintro ⟨HO, Hz1, ⟨Hres1, Hov1⟩⟩
  iapply Hk
  isplitl [HO]; · iexact HO
  isplitl [Hx Hdkv Hu Hwq Hwqr Hwo]
  · isplitl [Hx]; · iexact Hx
    isplitl [Hdkv]; · iexact Hdkv
    isplitl [Hu]; · iexact Hu
    isplitl [Hwq]; · iexact Hwq
    isplitl [Hwqr]; · iexact Hwqr
    iexact Hwo
  isplitl [Hc Hcr Hur Ho Hov0 Hov1]
  · unfold payLatent payLatentIn payUpIn
    isplitl [Hc]
    · iexists cVal m c
      iapply (Entails.of_eq (at_whole c cc0_scratch0 (cVal m c))) $$ Hc
    isplitl [Hcr]
    · iexists cVal m (xp c)
      iapply (Entails.of_eq (at_whole c cc0_scratch1 (cVal m (xp c)))) $$ Hcr
    isplitl [Hur]
    · iexists uVal m (xp c)
      iapply (Entails.of_eq (at_whole c cc0_scratch2 (uVal m (xp c)))) $$ Hur
    isplitl [Ho]
    · iexists oVal m c; iexact Ho
    iexists outVal m c
    iapply (Entails.of_eq (split_ov c (outVal m c)).symm)
    isplitl [Hov0]; · iexact Hov0
    iexact Hov1
  isplitl [Hres0 Hres1]
  · iapply (Entails.of_eq (split_res c (outVal m c)).symm)
    isplitl [Hres0]; · iexact Hres0
    iexact Hres1
  isplitl [Hbz]; · iexact Hbz
  isplitl [HzX]; · iexact HzX
  isplitl [HzS]; · iexact HzS
  isplitl [HzR]; · iexact HzR
  isplitl [Hz0]; · iexact Hz0
  iexact Hz1

end Whole

end Cert.KernelIdeal.Run

end
-- ==== Proof.Deal.lean ====
/- What the launch deals: the cells, the tokens and the credits of the whole mesh, regrouped device by device
   into what each device's body starts from. -/
module

public import proofs.«01_k».proof.Proof.Run

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal.Gen

variable {F : FTy → Type} [FloatOps F] [Named F]

local notation "𝕄" => MT nD τ sig Unit (Elt F) ℕ UU ℕ

variable (m : (ℓ : Loc nD τ sig) → Buf (Elt F) ℓ)

/-! ## The own cells as a family -/

/-- The own semaphores in the order of the family. -/
abbrev ownList : List (Fin 22) := [0, 1, 2, 3, 4, 5, 6, 7, 8, 9, 10, 11, 12, 13, 14, 15, 16, 17, 18, 19, 20, 21]

theorem fam_eq (Φ : DmaSem sig → sProp 𝕄) : bigSep Finset.univ (fun k : Fin 22 => Φ (own k)) = fam Φ := by
  rw [bigSep_univ_eq_bigSepL ownList (by decide) (by decide) (fun k : Fin 22 => Φ (own k))]
  refine BI.equiv_iff.mp ⟨?_, ?_⟩
  · show iprop(Φ (own 0) ∗ Φ (own 1) ∗ Φ (own 2) ∗ Φ (own 3) ∗ Φ (own 4) ∗ Φ (own 5) ∗ Φ (own 6) ∗ Φ (own 7) ∗ Φ (own 8)
      ∗ Φ (own 9) ∗ Φ (own 10) ∗ Φ (own 11) ∗ Φ (own 12) ∗ Φ (own 13) ∗ Φ (own 14) ∗ Φ (own 15) ∗ Φ (own 16) ∗ Φ (own 17)
      ∗ Φ (own 18) ∗ Φ (own 19) ∗ Φ (own 20) ∗ Φ (own 21)) ⊢
      iprop((Φ (own 0) ∗ Φ (own 1) ∗ Φ (own 2) ∗ Φ (own 3))
      ∗ (Φ (own 4) ∗ Φ (own 5) ∗ Φ (own 6) ∗ Φ (own 7) ∗ Φ (own 8) ∗ Φ (own 9) ∗ Φ (own 10) ∗ Φ (own 11) ∗ emp)
      ∗ (Φ (own 12) ∗ Φ (own 13) ∗ Φ (own 14) ∗ Φ (own 15) ∗ Φ (own 16) ∗ Φ (own 17) ∗ Φ (own 18) ∗ Φ (own 19) ∗ emp)
      ∗ (Φ (own 20) ∗ Φ (own 21)))
    iintro ⟨A0, A1, A2, A3, B0, B1, B2, B3, B4, B5, B6, B7, C0, C1, C2, C3, C4, C5, C6, C7, D0, D1⟩
    iframe
  · show iprop((Φ (own 0) ∗ Φ (own 1) ∗ Φ (own 2) ∗ Φ (own 3))
      ∗ (Φ (own 4) ∗ Φ (own 5) ∗ Φ (own 6) ∗ Φ (own 7) ∗ Φ (own 8) ∗ Φ (own 9) ∗ Φ (own 10) ∗ Φ (own 11) ∗ emp)
      ∗ (Φ (own 12) ∗ Φ (own 13) ∗ Φ (own 14) ∗ Φ (own 15) ∗ Φ (own 16) ∗ Φ (own 17) ∗ Φ (own 18) ∗ Φ (own 19) ∗ emp)
      ∗ (Φ (own 20) ∗ Φ (own 21))) ⊢
      iprop(Φ (own 0) ∗ Φ (own 1) ∗ Φ (own 2) ∗ Φ (own 3) ∗ Φ (own 4) ∗ Φ (own 5) ∗ Φ (own 6) ∗ Φ (own 7) ∗ Φ (own 8)
      ∗ Φ (own 9) ∗ Φ (own 10) ∗ Φ (own 11) ∗ Φ (own 12) ∗ Φ (own 13) ∗ Φ (own 14) ∗ Φ (own 15) ∗ Φ (own 16) ∗ Φ (own 17)
      ∗ Φ (own 18) ∗ Φ (own 19) ∗ Φ (own 20) ∗ Φ (own 21))
    iintro ⟨⟨A0, A1, A2, A3⟩, ⟨B0, B1, B2, B3, B4, B5, B6, B7, -⟩, ⟨C0, C1, C2, C3, C4, C5, C6, C7, -⟩, D0, D1⟩
    iframe

/-! ## The launch credit -/

/-- What every device owes one cell of its partner, its partner's share of the launch credit holds. -/
theorem credit_of (σ : Dev nD ≃ Dev nD) (sm : SemLoc sig) (n : ℕ) (c : Dev nD) :
    (Pipeline.launchCred (fun d => tallyAt ((σ d : Thread nD τ), sm) () n) c : sProp 𝕄)
      ⊢ cred (tallyAt ((c : Thread nD τ), sm) () n) := by
  refine (Pipeline.launchCred_elim _ c sm).trans (Entails.of_eq (congrArg cred ?_))
  rw [show (tallyAt ((c : Thread nD τ), sm) () n : CellTallies nD τ sig Unit) = tallyOn ((c : Thread nD τ), sm) (Finsupp.single () n) from rfl]
  refine congrArg _ (Finsupp.ext fun u => ?_)
  cases u
  rw [Pipeline.launchCredit_owing, Finsupp.single_eq_same, Finset.sum_eq_single (σ.symm c)]
  · rw [Equiv.apply_symm_apply, tallyAt_apply, if_pos ⟨rfl, rfl⟩]
  · intro d _ hd
    rw [tallyAt_apply, if_neg]
    rintro ⟨h, -⟩
    have h' : c = σ d := congrArg (fun g : GSem nD τ sig => g.1.1) h
    exact hd (by rw [h', Equiv.symm_apply_apply])
  · exact fun h => absurd (Finset.mem_univ _) h

theorem credit_pairs (c : Dev nD) : ∀ l : List (Fin 8),
    (Pipeline.launchCred (fun d => owedY d l) c : sProp 𝕄) ⊢ sepL l (fun j => cred (tallyAt (dCell c (recvY j)) () Np))
  | [] => Entails.of_eq (Pipeline.launchCred_zero c)
  | j :: l => by
    show (Pipeline.launchCred (fun d => owedY d l + tallyAt (dCell (yp d) (recvY j)) () Np) c : sProp 𝕄)
      ⊢ iprop(cred (tallyAt (dCell c (recvY j)) () Np) ∗ sepL l (fun j => cred (tallyAt (dCell c (recvY j)) () Np)))
    rw [Pipeline.launchCred_add]
    iintro ⟨H, Hj⟩
    isplitl [Hj]
    · iapply (credit_of swapY (.dma (recvY j)) Np c); iexact Hj
    · iapply (credit_pairs c l); iexact H

theorem credit_all (c : Dev nD) :
    (Pipeline.launchCred O₀ c : sProp 𝕄) ⊢ iprop(cred (tallyAt (barCell c) () 2) ∗ credits (F := F) c) := by
  unfold O₀ O3 O2 O1
  rw [Pipeline.launchCred_add, Pipeline.launchCred_add, Pipeline.launchCred_add, Pipeline.launchCred_add]
  have h2 : iprop(cred (tallyAt (barCell c) () 1) ∗ cred (tallyAt (barCell c) () 1)) ⊢ (cred (tallyAt (barCell c) () 2) : sProp 𝕄) := by
    refine (cred_add _ _).2.trans (Entails.of_eq ?_)
    rw [tallyAt_add]
  unfold credits
  iintro ⟨⟨⟨⟨HY, HX1⟩, HX0⟩, HbY⟩, HbX⟩
  isplitl [HbY HbX]
  · iapply h2
    isplitl [HbY]
    · iapply (credit_of swapY (.reg barS) 1 c); iexact HbY
    · iapply (credit_of swapX (.reg barS) 1 c); iexact HbX
  isplitl [HX0 HX1]
  · isplitl [HX0]
    · iapply (credit_of swapX (.dma (recvX 0)) Nc c); iexact HX0
    · iapply (credit_of swapX (.dma (recvX 1)) Nu c); iexact HX1
  iapply (credit_pairs c pairs); iexact HY

/-! ## The cells and the tokens of the launch -/

def barEmb : Dev nD ↪ GSem nD τ sig := ⟨fun c => barCell c, fun _ _ h => congrArg (fun g : GSem nD τ sig => g.1.1) h⟩
theorem osem_inj : Function.Injective osem := by decide
def ownEmb : Dev nD × Fin 22 ↪ GSem nD τ sig :=
  ⟨fun p => ((p.1 : Thread nD τ), osem p.2), fun _ _ h =>
    Prod.ext (congrArg (fun g : GSem nD τ sig => g.1.1) h) (osem_inj (congrArg Prod.snd h))⟩

/-- The barrier cells are open from the start, the kernel's own cells once its region is entered. -/
abbrev barCells : Finset (GSem nD τ sig) := Finset.univ.map barEmb
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨p, -, h⟩ := Finset.mem_map.mp h₂
  have h' : osem p.2 = .reg barS := congrArg Prod.snd h
  cases h'

theorem cellAt_mem (p : Dev nD × Option (Fin 22)) : cellAt p ∈ barCells ∪ ownCells := by
  obtain ⟨c, k⟩ := p
  cases k with
  | none => exact Finset.mem_union_left _ (Finset.mem_map_of_mem barEmb (Finset.mem_univ c))
  | some k => exact Finset.mem_union_right _ (Finset.mem_map_of_mem ownEmb (Finset.mem_univ (c, k)))

/-- A device's duties: the two on its barrier, one on each of its own cells. -/
abbrev duty : Bool ⊕ Fin 22 → SemLoc sig × Bool
  | .inl b => (.reg barS, b)
  | .inr k => (osem k, false)
theorem duty_inj : Function.Injective duty := by decide

def dutyToks : Finset (GSem nD τ sig × ℕ × Bool) :=
  Finset.univ.map ⟨fun p : Dev nD × (Bool ⊕ Fin 22) => (((p.1 : Thread nD τ), (duty p.2).1), 0, (duty p.2).2), fun _ _ h =>
    Prod.ext (congrArg (fun t : GSem nD τ sig × ℕ × Bool => t.1.1.1) h)
      (duty_inj (Prod.ext (congrArg (fun t : GSem nD τ sig × ℕ × Bool => t.1.2) h)
        (congrArg (fun t : GSem nD τ sig × ℕ × Bool => t.2.2) h)))⟩

/-- The token of a duty on device `c`'s semaphore `s`. -/
abbrev tokAt (c : Dev nD) (s : DmaSem sig) : sProp 𝕄 := dutyTok ER (dCell c s) 0 false

theorem toks_eq : bigSep dutyToks (fun x => (dutyTok ER x.1 x.2.1 x.2.2 : sProp 𝕄))
    = bigSep Finset.univ fun c : Dev nD =>
        iprop((dutyTok ER (barCell c) 0 false ∗ dutyTok ER (barCell c) 0 true) ∗ fam (tokAt (F := F) c)) := by
  unfold dutyToks
  rw [bigSep_map, bigSep_univ_prod]
  refine bigSep_congr fun c _ => ?_
  rw [bigSep_univ_sum, ← fam_eq]
  refine congrArg₂ _ ?_ rfl
  rw [show (Finset.univ : Finset Bool) = {false, true} from by decide, bigSep_insert (by decide), bigSep_singleton]
  rfl

/-- Each token handed to the device that pays the duty. -/
theorem toks_around :
    (bigSep Finset.univ fun c : Dev nD =>
        iprop((dutyTok ER (barCell c) 0 false ∗ dutyTok ER (barCell c) 0 true) ∗ fam (tokAt (F := F) c)))
      ⊢ bigSep Finset.univ fun c : Dev nD =>
        iprop((dutyTok ER (barCell (xp c)) 0 false ∗ dutyTok ER (barCell (yp c)) 0 true) ∗ tokens (F := F) c) := by
  unfold fam tokens
  simp only [bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => tokAt (F := F) c (recvX 0)),
    bigSep_univ_equiv swapX (fun c : Dev nD => tokAt (F := F) c (recvX 1)),
    bigSep_univ_equiv swapY (fun c : Dev nD => (sepL pairs (fun j => tokAt (F := F) c (recvY j)) : sProp 𝕄))]
  exact BI.Entails.refl _

/-! ## What a device keeps -/

/-- What a device starts the run with besides the records. -/
def kept (c : Dev nD) : sProp 𝕄 :=
  iprop(barShare (F := F) c ∗ tokens (F := F) c ∗ credits (F := F) c)

/-- What a device holds of the protocol before its region is entered. -/
def held₀ (c : Dev nD) : sProp 𝕄 :=
  iprop((∃ κ, records m κ ∗ bigSep Finset.univ (fun k : Fin 22 => (openTok ER (dCell c (own k)) : sProp 𝕄))) ∗ kept (F := F) c)

/-- What it holds once its own cells are open. -/
def held₁ (c : Dev nD) : sProp 𝕄 :=
  iprop((∃ κ, records m κ) ∗ kept (F := F) c ∗ fam (fun s => (atPos ER (dCell c s) 0 ∅ 0 : sProp 𝕄))
    ∗ fam (fun s => (reached ER (dCell c s) 0 : sProp 𝕄)) ∗ levAts L lv)

theorem open_own (c : Dev nD) :
    iprop(held₀ m c ∗ Pipeline.ownSems0 osem c ∗ levAts L lv) ⊢ (|={Set.univ}=> held₁ m c : sProp 𝕄) := by
  have hone (κ : GSem nD τ sig → ℕ) : ∀ k ∈ (Finset.univ : Finset (Fin 22)),
      iprop(records m κ ∗ (openTok ER (dCell c (own k)) ∗ semVal (dCell c (own k)) 0))
        ⊢ (iprop(|={Set.univ}=> (atPos ER (dCell c (own k)) 0 ∅ 0 ∗ reached ER (dCell c (own k)) 0)) : sProp 𝕄) := fun k _ => by
    iintro ⟨#HR, Ho, Hv⟩
    iapply (Rounds.cell_open ER (Rd m) (g := dCell c (own k)) (Set.mem_univ (κ (dCell c (own k)))))
    isplitr
    · iapply (inv_at m κ (c, some k)); iexact HR
    isplitl [Ho] <;> iassumption
  unfold held₀ held₁ Pipeline.ownSems0
  rw [← fam_eq, ← fam_eq]
  iintro ⟨⟨⟨%κ, #HR, Ho⟩, Hk⟩, Hv, #Hlev⟩
  ihave Hall := (bigSep_with_persistent (hone κ)) $$ [Ho Hv]
  · isplitr; · iexact HR
    iapply bigSep_pair
    isplitl [Ho]; · iexact Ho
    iexact Hv
  imod (bigSep_fupd _ _) $$ Hall with Hall
  ihave Hall := bigSep_unpair $$ Hall
  icases Hall with ⟨Hat, Hr⟩
  imodintro
  isplitr; · iexists κ; iexact HR
  isplitl [Hk]; · iexact Hk
  isplitl [Hat]; · iexact Hat
  isplitl [Hr]; · iexact Hr
  iexact Hlev

/-- The cells' counters and the launch element, dealt to the devices. -/
theorem deal :
    iprop(bigSep Finset.univ (fun c : Dev nD => (semVal (barCell c) 0 : sProp 𝕄))
        ∗ bigSep Finset.univ (fun c : Dev nD => (iprop(cred (tallyAt (barCell c) () 2) ∗ credits (F := F) c) : sProp 𝕄))
        ∗ BI.own (ER (launchOf barCells ownCells dutyToks)))
      ⊢ (|={Set.univ}=> bigSep Finset.univ (held₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ (fun k : Fin 22 => (openTok ER (dCell c (own k)) : sProp 𝕄))) :=
    Entails.of_eq (by rw [bigSep_map, bigSep_univ_prod]; rfl)
  have hinv (κ : GSem nD τ sig → ℕ) :
      (bigSep (barCells ∪ ownCells) fun g => cellInv ER (Rd m) (κ g) g) ⊢ bigSep Finset.univ (invAt m κ) :=
    (bigSep_of_persistent Finset.univ _).trans (bigSep_mono fun p _ => bigSep_elim (cellAt_mem p))
  have hrec (κ : GSem nD τ sig → ℕ) :
      iprop((bigSep (barCells ∪ ownCells) fun g => cellInv ER (Rd m) (κ g) g) ∗ bigSep barCells fun g => reached ER g 0)
        ⊢ (records m κ : sProp 𝕄) := by
    unfold records
    iintro ⟨#HI, #HR⟩
    isplitr
    · iapply (hinv κ); iexact HI
    · iapply (Entails.of_eq (bigSep_map (s := Finset.univ) barEmb (Φ := fun g : GSem nD τ sig => (reached ER g 0 : sProp 𝕄)))); iexact HR
  iintro ⟨Hv, Hc, Hu⟩
  imod (Rounds.fund_launch ER (Rd m) cells_disjoint (fun g _ h => h) dutyToks) $$ [Hv Hu] with ⟨%κ, -, #Hinv, #Hr, Hat, Hopen, Htok⟩
  · isplitl [Hv]
    · iapply hv $$ Hv
    · iexact Hu
  imodintro
  ihave Hat := hat $$ Hat
  ihave Hopen := hopen $$ Hopen
  ihave Htok := (Entails.of_eq (toks_eq (F := F))) $$ Htok
  ihave Htok := (toks_around (F := F)) $$ Htok
  ihave H1 := bigSep_pair $$ [Htok Hc]
  · isplitl [Htok] <;> iassumption
  ihave H2 := bigSep_pair $$ [Hat H1]
  · isplitl [Hat] <;> iassumption
  ihave H3 := bigSep_pair $$ [Hopen H2]
  · isplitl [Hopen] <;> iassumption
  iapply (bigSep_with_persistent (R := records m κ) (fun c _ => ?_))
  rotate_left
  · isplitr [H3]
    · iapply (hrec κ)
      isplitr; · iexact Hinv
      iexact Hr
    · iexact H3
  unfold held₀ kept barShare
  iintro ⟨#HR, Ho, Hat, ⟨⟨HbX, HbY⟩, Ht⟩, Hcb, Hcr⟩
  isplitl [Ho]
  · iexists κ
    isplitr; · iexact HR
    iexact Ho
  iframe

end Cert.KernelIdeal.Run

end
-- ==== Proof.Launch.lean ====
/- The launch: the proof data of the one region, its body's obligation, and the run of the whole program. -/
module

public import proofs.«01_k».proof.Proof.Deal
public import Idealize.ShloMosaic.Lib.Quiescent

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The proof data -/

/-- The result's buffer at anything, the scratch and the generator's register. -/
def aside (c : Dev nD) : sProp 𝕄 := iprop(scratch (F := F) c ∗ ∃ r, prngReg c r)

/-- What the staging buffers hold. -/
def fetched (c : Dev nD) (w : Fin cfg0.W) : (cfg0.win w).block.Idx → Elt F (cfg0.win w).elt := match w with
  | ⟨0, _⟩ => gX m c
  | ⟨1, _⟩ => gDkv m c
  | ⟨2, _⟩ => gUkv m c
  | ⟨3, _⟩ => gWq m c
  | ⟨4, _⟩ => gWqr m c
  | ⟨5, _⟩ => gWo m c

def dat0 (c : Dev nD) : Dat τ (Elt F) Unit ℕ UU ℕ cfg0 c where
  A w := V m c (Pipeline.arrRef spec0 w)
  after w _ := fetched m c w
  Φ t := match t with
    | ⟨0, _⟩ => iprop(held₁ m c ∗ (∃ f : Buf (Elt F) ((c : Thread nD τ).loc main_v9), (c : Thread nD τ).loc main_v9 ↦{fullShare} f) ∗ aside (F := F) c)
    | ⟨_ + 1, _⟩ => iprop((semVal (barCell c) 0 ∗ fam (fun s => (semVal (dCell c s) 0 : sProp 𝕄)))
        ∗ ((c : Thread nD τ).loc main_v9 ↦{fullShare} outVal m c) ∗ aside (F := F) c)
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owesAt_of (c : Dev nD) (t : Fin (cfg0.N + 1)) (O : CellTallies nD τ sig Unit) (h : (dat0 m c).owed t = O) :
    owe (F := F) c O ⊢ ((dat0 m c).owesAt () t : sProp 𝕄) := by
  unfold Dat.owesAt Pipeline.owesWithin Dat.bound
  rw [h]
  iintro ⟨%W, HO⟩
  iexists W
  isplitr
  · ipureintro; exact fun _ _ => Or.inl trivial
  iexact HO
theorem of_owesAt (c : Dev nD) (t : Fin (cfg0.N + 1)) (O : CellTallies nD τ sig Unit) (h : (dat0 m c).owed t = O) :
    ((dat0 m c).owesAt () t : sProp 𝕄) ⊢ owe (F := F) c O := by
  unfold Dat.owesAt Pipeline.owesWithin
  rw [h]
  iintro ⟨%W, -, HO⟩
  iexists W
  iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop((c : Thread nD τ).loc b ↦{fullShare} X) := by
  unfold owns
  simp only [Memref.view_whole, View.read_whole, View.set_whole]
  refine BI.equiv_iff.mp ⟨?_, ?_⟩
  · show iprop(∃ f : Buf (Elt F) ((c : Thread nD τ).loc b), ⌜f = X⌝ ∗ ((c : Thread nD τ).loc b ↦{fullShare} f))
      ⊢ iprop((c : Thread nD τ).loc b ↦{fullShare} X)
    iintro ⟨%f, %h, H⟩
    subst h
    iexact H
  · show iprop((c : Thread nD τ).loc b ↦{fullShare} X)
      ⊢ iprop(∃ f : Buf (Elt F) ((c : Thread nD τ).loc b), ⌜f = X⌝ ∗ ((c : Thread nD τ).loc b ↦{fullShare} f))
    iintro H
    iexists X
    isplitr
    · ipureintro; rfl
    iexact H

/-- The staging buffers hold the windows' blocks when the body starts. -/
theorem before_eq (c : Dev nD) (w : Fin cfg0.W) (d) : (dat0 m c).before w t0_0 d = fetched m c w := by
  obtain ⟨w, hw⟩ := w
  have hw' : w < 6 := hw
  interval_cases w
  all_goals
    exact ((dat0 m c).before_in_eq_fetched _ rfl (fun _ => rfl) (fun _ _ _ => rfl) (fun t => by rw [fin_N0 t]; rfl) t0_0 d).trans rfl

/-- A whole buffer held through its memref. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

theorem staged_eq (c : Dev nD) : staged m c = iprop(stg c cc0_stg0_0 (gX m c) ∗ stg c cc0_stg1_0 (gDkv m c)
    ∗ stg c cc0_stg2_0 (gUkv m c) ∗ stg c cc0_stg3_0 (gWq m c) ∗ stg c cc0_stg4_0 (gWqr m c) ∗ stg c cc0_stg5_0 (gWo m c)) := by
  unfold staged
  simp only [owns_whole_eq]

theorem body_ok (c : Dev nD) : BodyObligation (dat0 m c) defs₀ 𝒱₀ () Set.univ := fun t => by
  rw [fin_N0 t]
  rw [bigSep_W0, bigSep_W0]
  simp only [before_eq]
  show iprop((held₁ m c ∗ (∃ f : Buf (Elt F) ((c : Thread nD τ).loc main_v9), (c : Thread nD τ).loc main_v9 ↦{fullShare} f) ∗ aside (F := F) c)
      ∗ (dat0 m c).owesAt () t0_0.castSucc
      ∗ ((∃ _d : S2x256x1024.Idx → Elt F .bf16, stg c cc0_stg0_0 (gX m c)) ∗ (∃ _d : S1024x96.Idx → Elt F .bf16, stg c cc0_stg1_0 (gDkv m c))
        ∗ (∃ _d : S128x1024.Idx → Elt F .bf16, stg c cc0_stg2_0 (gUkv m c)) ∗ (∃ _d : S1024x1024.Idx → Elt F .bf16, stg c cc0_stg3_0 (gWq m c))
        ∗ (∃ _d : S1024x512.Idx → Elt F .bf16, stg c cc0_stg4_0 (gWqr m c)) ∗ (∃ _d : S1024x1024.Idx → Elt F .bf16, stg c cc0_stg5_0 (gWo m c))))
    ⊢ WP c (bodyAt0 t0_0) (fun _ => iprop(((semVal (barCell c) 0 ∗ fam (fun s => (semVal (dCell c s) 0 : sProp 𝕄)))
        ∗ ((c : Thread nD τ).loc main_v9 ↦{fullShare} outVal m c) ∗ aside (F := F) c)
      ∗ (dat0 m c).owesAt () t0_0.succ
      ∗ (stg c cc0_stg0_0 (gX m c) ∗ stg c cc0_stg1_0 (gDkv m c)
    ∗ stg c cc0_stg2_0 (gUkv m c) ∗ stg c cc0_stg3_0 (gWq m c) ∗ stg c cc0_stg4_0 (gWqr m c) ∗ stg c cc0_stg5_0 (gWo m c))))
  rw [body_eq, ← staged_eq]
  unfold held₁ kept aside
  iintro ⟨⟨⟨⟨%κ, #HR⟩, ⟨Hbar, Htok, Hcr⟩, Hat, Hr, #Hlev⟩, Hres, Hscr, Hp⟩, HO, ⟨%d0, H0⟩, ⟨%d1, H1⟩, ⟨%d2, H2⟩, ⟨%d3, H3⟩, ⟨%d4, H4⟩, ⟨%d5, H5⟩⟩
  iapply (body_run m κ c)
  isplitr; · iexact HR
  isplitr; · iexact Hlev
  isplitl [Hbar]; · iexact Hbar
  isplitl [HO]; · iapply (of_owesAt m c t0_0.castSucc (O₀ c) rfl); iexact HO
  isplitl [H0 H1 H2 H3 H4 H5]
  · rw [staged_eq]
    isplitl [H0]; · iexact H0
    isplitl [H1]; · iexact H1
    isplitl [H2]; · iexact H2
    isplitl [H3]; · iexact H3
    isplitl [H4]; · iexact H4
    iexact H5
  isplitl [Hscr]; · iexact Hscr
  isplitl [Hres]; · iexact Hres
  isplitl [Htok]; · iexact Htok
  isplitl [Hcr]; · iexact Hcr
  isplitl [Hat]; · iexact Hat
  isplitl [Hr]; · iexact Hr
  iintro ⟨HO, Hst, Hscr, Hres, Hb0, Hf0⟩
  isplitr [HO Hst]
  · isplitl [Hb0 Hf0]
    · isplitl [Hb0]; · iexact Hb0
      iexact Hf0
    isplitl [Hres]; · iexact Hres
    isplitl [Hscr]; · iexact Hscr
    iexact Hp
  isplitl [HO]; · iapply (owesAt_of m c t0_0.succ 0 rfl); iexact HO
  iexact Hst

/-! ## The region -/

abbrev bufs : Finset (DevRef τ sig) := Pipeline.ucRefs τ sig
/-- The result's buffer. -/
abbrev resRef : DevRef τ sig := Proc.devRef .tc main_v9
abbrev arrs : Finset (DevRef τ sig) := Pipeline.arrRefs (τ := τ) spec0

/-- The buffers when the program starts, when the region is entered, and when it is left. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) resRef (outVal m c)

theorem V₂_res (c : Dev nD) : V₂ m c resRef = outVal m c := Function.update_self ..
theorem V₂_of_ne (c : Dev nD) {b : DevRef τ sig} (h : b ≠ resRef) : V₂ m c b = V₁ m c b := Function.update_of_ne h ..
theorem all_in (w : Fin 6) : (cfg0.win w).isOut = false := by revert w; decide

theorem arrs_sub : arrs ⊆ bufs := by decide
theorem res_mem : {resRef} ⊆ bufs \ arrs := by decide
theorem res_not_arr (w : Fin 6) : Proc.devRef .tc (Pipeline.arrRef spec0 w) ≠ resRef := by revert w; decide

theorem held_res (c : Dev nD) (W : Valuation τ sig (Elt F)) :
    (StableHlo.held (c.tc : Thread nD τ) {resRef} W : sProp 𝕄) = ((c : Thread nD τ).loc main_v9 ↦{fullShare} W resRef) := by
  unfold StableHlo.held
  rw [BI.bigSep_singleton]

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_above (c : Dev nD) (t : Fin ((Pipeline.pin (pcfgs (F := F)) adm 0).N + 1)) : Above 0 ((pdats m 0 c).owed t) := by
  show Above 0 ((dat0 m c).owed t)
  obtain ⟨t, ht⟩ := t
  cases t with
  | zero =>
    exact above_add (above_add ((above_O2 c).mono (by decide)) (above_tally (yp c) (.reg barS) Nat.one_pos))
      (above_tally (xp c) (.reg barS) Nat.one_pos)
  | succ t => exact above_zero 0

theorem lv_staging (w : Fin 6) (s : Fin (spec0 w).nbuf) (c : Dev nD) : lv ((c : Thread nD τ), .dma ((spec0 w).sem s)) () ≤ 0 := by
  revert c s w; decide

theorem enter (c : Dev nD) : iprop(Pipeline.scopedRest (Pipeline.pin (pcfgs (F := F)) adm 0).spec c ∗ (∃ r, prngReg c r)
      ∗ StableHlo.held (c.tc : Thread nD τ) {resRef} (V₁ m c) ∗ held₁ m c)
    ⊢ (pdats m 0 c).Φ 0 := by
  show iprop(Pipeline.scopedRest spec0 c ∗ (∃ r, prngReg c r) ∗ StableHlo.held (c.tc : Thread nD τ) {resRef} (V₁ m c) ∗ held₁ m c)
    ⊢ iprop(held₁ m c ∗ (∃ f : Buf (Elt F) ((c : Thread nD τ).loc main_v9), (c : Thread nD τ).loc main_v9 ↦{fullShare} f) ∗ aside (F := F) c)
  rw [scopedRest0_eq, held_res]
  unfold aside scratch
  iintro ⟨Hs, Hp, Hres, HK⟩
  isplitl [HK]; · iexact HK
  isplitl [Hres]; · iexists _; iexact Hres
  isplitl [Hs]; · iexact Hs
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) {resRef} (V₂ m c) ∗ Pipeline.ownSems0 osem c ∗ semVal (barCell c) 0) := by
  show iprop((semVal (barCell c) 0 ∗ fam (fun s => (semVal (dCell c s) 0 : sProp 𝕄)))
        ∗ ((c : Thread nD τ).loc main_v9 ↦{fullShare} outVal m c) ∗ aside (F := F) c)
    ⊢ iprop(Pipeline.scopedRest spec0 c ∗ (∃ r, prngReg c r) ∗ StableHlo.held (c.tc : Thread nD τ) {resRef} (V₂ m c)
      ∗ Pipeline.ownSems0 osem c ∗ semVal (barCell c) 0)
  rw [scopedRest0_eq, held_res, V₂_res]
  unfold aside scratch Pipeline.ownSems0
  rw [← fam_eq]
  iintro ⟨⟨Hb0, Hf0⟩, Hres, Hs, Hp⟩
  isplitl [Hs]; · iexact Hs
  isplitl [Hp]; · iexact Hp
  isplitl [Hres]; · iexact Hres
  isplitl [Hf0]; · iexact Hf0
  iexact Hb0

set_option backward.isDefEq.respectTransparency.types false in
/-- The region, entered owing `O₀` and left owing nothing. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    {resRef} (bufs \ arrs) res_mem kitP rfl (fun c => (body_ok m c).loose)
    (fun _ => 0) O₀ (fun c => (show (pdats m 0 c).owed 0 = O₀ c from rfl).trans (zero_add _).symm) (fun _ => rfl) (fun _ => rfl)
    (fun _ w => by unfold Dat.share; split <;> rfl)
    (V₁ m) (V₂ m) (fun c b hb => V₂_of_ne m c fun h => (Finset.mem_sdiff.mp hb).2 (Finset.mem_singleton.mpr h))
    (held₀ m) (fun c => semVal (barCell c) 0) (held₁ m) (fun c => semVal (barCell c) 0) (open_own m) (enter m) (leave m)
    (fun c => by iintro H; imodintro; iexact H)
    (fun _ => 0)
    ⟨fun c w s => by rw [L_tc]; exact Finset.mem_singleton_self _, fun c w s => lv_staging w s c, fun c t g i h => owed_above m c t g i h⟩
    (fun _ => iprop(emp))
    (fun c w => rfl)
    (fun c w => ((dat0 m c).arrAt_in w (all_in w) _).trans (V₂_of_ne m c (res_not_arr w)).symm)

/-- The host's operations before it. -/
def seg0 : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (V₀ m)
    (fun c => iprop(held₀ m c ∗ (∃ r, prngReg c r) ∗ ∃ W, owes (c : Thread nD τ) (O₀ c) W))

/-! ## The run -/

abbrev T₀ (c : Dev nD) : sProp 𝕄 :=
  iprop(StableHlo.held (c : Thread nD τ) bufs (V₀ m c) ∗ (held₀ m c ∗ (∃ r, prngReg c r) ∗ ∃ W, owes (c : Thread nD τ) (O₀ c) W))
abbrev Tₙ (c : Dev nD) : sProp 𝕄 := iprop(StableHlo.held (c : Thread nD τ) bufs (V₂ m c) ∗ semVal (barCell c) 0)

theorem reg0_pre (c : Dev nD) :
    iprop(StableHlo.held (c : Thread nD τ) bufs (V₁ m c) ∗ (held₀ m c ∗ (∃ r, prngReg c r) ∗ ∃ W, owes (c : Thread nD τ) (O₀ c) W))
      ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ held₀ m c ∗ ∃ Wd, owes (c : Thread nD τ) (0 + O₀ c) Wd)
  rw [zero_add, StableHlo.held_sub_split (c.tc : Thread nD τ) arrs_sub]
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem reg0_post (c : Dev nD) : (reg0 m).post c
    ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ semVal (barCell c) 0
    ∗ ∃ Wd, owes (c : Thread nD τ) (0 : CellTallies nD τ sig Unit) Wd) ⊢ _
  unfold Tₙ
  rw [StableHlo.held_sub_split (c.tc : Thread nD τ) arrs_sub (V₂ m c)]
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

theorem unscopedBufs_eq (c : Dev nD) (W : Valuation τ sig (Elt F)) :
    (unscopedBufs c (fun b => W b) : sProp 𝕄) = StableHlo.held (c : Thread nD τ) bufs W := by
  unfold unscopedBufs StableHlo.held bufs Pipeline.ucRefs StableHlo.tcRefs
  rw [Finset.filter_map, BI.bigSep_map]
  rfl

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells ownCells dutyToks)

/-- The protocol's element waits on one device for the deal. -/
def parked (c : Dev nD) : sProp 𝕄 := if c = 0 then BI.own (ER (launchOf barCells ownCells dutyToks)) else iprop(emp)

theorem bigSep_parked : bigSep Finset.univ (parked (F := F)) = BI.own (ER (launchOf barCells ownCells dutyToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

/-- What a core starts with, and that sorted by what the deal uses. -/
def atStart (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked (F := F) c)
def dealt (c : Dev nD) : sProp 𝕄 :=
  iprop((StableHlo.held (c : Thread nD τ) bufs (V₀ m c) ∗ ((∃ r, prngReg c r) ∗ ∃ W, owes (c : Thread nD τ) (O₀ c) W))
    ∗ (semVal (barCell c) 0 ∗ ((cred (tallyAt (barCell c) () 2) ∗ credits (F := F) c) ∗ parked (F := F) c)))

theorem init :
    iprop(bigSep Finset.univ (atStart m ρ) ∗ levAts L lv)
      ⊢ (|={Set.univ}=> bigSep Finset.univ (T₀ m) : sProp 𝕄) := by
  have hcore (c : Dev nD) : atStart m ρ c ⊢ dealt m c := by
    unfold atStart dealt
    rw [show unscopedBufs c (fun b => m ((c : Thread nD τ).loc b)) = StableHlo.held (c : Thread nD τ) bufs (V₀ m c) from unscopedBufs_eq c (V₀ m c),
      unscopedSems_eq]
    iintro ⟨Hh, Hb, HO, Hcr, Hp, HG⟩
    isplitl [Hh HO Hp]
    · isplitl [Hh]; · iexact Hh
      isplitl [Hp]; · iexists (ρ c); iexact Hp
      iexists ∅; iexact HO
    isplitl [Hb]; · iexact Hb
    isplitl [Hcr]; · iapply (credit_all (F := F) c); iexact Hcr
    iexact HG
  have hcores : bigSep Finset.univ (atStart m ρ) ⊢ bigSep Finset.univ (dealt m) := bigSep_mono fun c _ => hcore c
  have hback : bigSep Finset.univ (fun c : Dev nD => iprop(held₀ m c
        ∗ (StableHlo.held (c : Thread nD τ) bufs (V₀ m c) ∗ ((∃ r, prngReg c r) ∗ ∃ W, owes (c : Thread nD τ) (O₀ c) W))))
      ⊢ bigSep Finset.univ (T₀ m) := bigSep_mono fun c _ => by
    show iprop(held₀ m c ∗ (StableHlo.held (c : Thread nD τ) bufs (V₀ m c) ∗ ((∃ r, prngReg c r) ∗ ∃ W, owes (c : Thread nD τ) (O₀ c) W)))
      ⊢ iprop(StableHlo.held (c : Thread nD τ) bufs (V₀ m c) ∗ (held₀ m c ∗ (∃ r, prngReg c r) ∗ ∃ W, owes (c : Thread nD τ) (O₀ c) W))
    iintro ⟨HK, Hh, Hp, HO⟩
    isplitl [Hh]; · iexact Hh
    isplitl [HK]; · iexact HK
    isplitl [Hp]; · iexact Hp
    iexact HO
  iintro ⟨H, -⟩
  ihave H := hcores $$ H
  unfold dealt
  ihave H := bigSep_unpair $$ H; icases H with ⟨HB, H⟩
  ihave H := bigSep_unpair $$ H; icases H with ⟨Hv, H⟩
  ihave H := bigSep_unpair $$ H; icases H with ⟨Hc, HG⟩
  ihave HG := (Entails.of_eq (bigSep_parked (F := F))) $$ HG
  imod (deal m) $$ [Hv Hc HG] with HK
  · isplitl [Hv]; · iexact Hv
    isplitl [Hc]; · iexact Hc
    iexact HG
  imodintro
  ihave H := bigSep_pair $$ [HK HB]
  · isplitl [HK] <;> iassumption
  iapply hback
  iexact H

/-- Held buffers hold in memory what they are held at. -/
theorem held_read (c : Dev nD) (S : Finset (DevRef τ sig)) (W : Valuation τ sig (Elt F)) (s : Phys nD τ sig (Elt F)) :
    iprop(StableHlo.held (c : Thread nD τ) S W ∗ SI s) ⊢ (⌜∀ b ∈ S, s.mem.mem (c, b) = W b⌝ : sProp 𝕄) := by
  by_cases h : ∀ b ∈ S, s.mem.mem (c, b) = W b
  · iintro -; ipureintro; exact h
  · push Not at h
    obtain ⟨b, hb, hne⟩ := h
    refine (BI.sep_mono (bigSep_elim hb) (BI.Entails.refl _)).trans ?_
    show iprop((((c, b) : Loc nD τ sig) ↦{fullShare} W b) ∗ SI s) ⊢ _
    iintro ⟨H, HSI⟩
    icombine HSI H gives %hx
    exact absurd (Buf.eq_of_forall_mem_univ hx) hne

theorem only_bar : ∀ sm : SemLoc sig, sm.isScoped .tc = false → sm = .reg barS := by decide

set_option backward.isDefEq.respectTransparency.types false in
/-- The whole program: from any memory with zero counters it runs to its end, every device's result then holding
    `outVal`, its arguments what they held, and every counter zero. -/
theorem run_main : θ_run defs (onTc (τ := τ) (main (F := F))) ⟨m, fun _ => 0, ρ⟩
    (fun r => (∀ c : Dev nD, ∀ b ∈ bufs, r.2.mem (c, b) = V₂ m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := ⟨fun c => .rfl, fun c => reg0_pre m c, fun c => reg0_post m c⟩)
    (hinit := init m ρ)
    (QY := fun c s => (∀ b ∈ bufs, s.mem (c, b) = V₂ m c b) ∧ s.sem (barCell c) = 0)
    (hfin := fun c s' => by
      unfold Tₙ
      iintro ⟨⟨Hh, Hb0⟩, HSI⟩
      icombine HSI Hb0 gives %hb
      ihave %h := (held_read c bufs (V₂ m c) s') $$ [Hh HSI]
      · isplitl [Hh] <;> iassumption
      imodintro
      isplitr
      · ipureintro
        exact ⟨h, by simpa using hb⟩
      iexact HSI)
    (hQ := fun s h hs => ⟨fun c => (h c).1,
      sem_eq_zero hs fun c sm hsm => by
        obtain rfl := only_bar sm hsm
        exact (h c).2⟩)

end Cert.KernelIdeal.Run

end
-- ==== Proof.Frames.lean ====
/- The frames of the three programs and the record of the named constant. The kernel's two programs have one text but
   for the scale, which `Kernel` spells by its bits: read back at the machine's floats it is the same program. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KernelIdeal.Run

open Idealize.ShloMosaic Idealize.ShloMosaic.TcCoe Idealize.SL.Sem
open Cert.KernelIdeal.Gen

variable {F : FTy → Type} [FloatOps F] [Named F]

/-- The run as the claims ask for it: the result array, the arguments, and the counters. -/
theorem run_claim (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v9) = outVal m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) := by
  refine (θ_run defs _ _).mono (fun r h => ⟨fun c => ?_, h.2⟩) (run_main m ρ)
  have arg : ∀ b : Ref sig .tc, Proc.devRef .tc b ∈ bufs → Proc.devRef .tc b ≠ resRef →
      V₁ m c (Proc.devRef .tc b) = m ((c.tc : Thread nD τ).loc b) →
      r.2.mem ((c.tc : Thread nD τ).loc b) = m ((c.tc : Thread nD τ).loc b) :=
    fun b hb hne hV => (h.1 c _ hb).trans ((V₂_of_ne m c hne).trans hV)
  exact ⟨(h.1 c resRef (by decide)).trans (V₂_res m c),
    arg main_arg0 (by decide) (by decide) (V_main_arg0 m c), arg main_arg1 (by decide) (by decide) (V_main_arg1 m c),
    arg main_arg2 (by decide) (by decide) (V_main_arg2 m c), arg main_arg3 (by decide) (by decide) (V_main_arg3 m c),
    arg main_arg4 (by decide) (by decide) (V_main_arg4 m c), arg main_arg5 (by decide) (by decide) (V_main_arg5 m c),
    arg main_arg6 (by decide) (by decide) (V_main_arg6 m c), arg main_arg7 (by decide) (by decide) (V_main_arg7 m c)⟩

end Cert.KernelIdeal.Run

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Cert.KernelIdeal.Run.run_claim m ρ)

/-- At the machine's floats a name stands for its bits. -/
@[instance_reducible] def spelled : Named Bits := ⟨fun _ _ {φ} b => Scalar.ofBits φ b⟩

attribute [local instance] spelled

theorem table_spelled : Cert.Kernel.defs₀ (F := Bits) = Cert.KernelIdeal.defs₀ (F := Bits) := by
  unfold Cert.Kernel.defs₀ Cert.KernelIdeal.defs₀
  congr 1
  funext l ts
  match l, ts with
  | 0, (t, s) => rfl -- one body, word for word
  | ⟨n + 1, h⟩, _ => exact absurd h (Nat.not_lt.2 (Nat.le_add_left _ _))

theorem frame_kernel : Cert.quiescent_Kernel := fun m ρ _ => by
  have hd : Cert.Kernel.defs (F := Bits) = Cert.KernelIdeal.defs (F := Bits) :=
    congrArg (Pipeline.defs Cert.KernelIdeal.pcfgs) table_spelled
  rw [hd]
  exact (θ_run (Cert.KernelIdeal.defs (F := Bits)) _ _).mono (fun r h => And.intro (fun c => (h.1 c).2) h.2)
    (Cert.KernelIdeal.Run.run_claim (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The name's one site: the scale is the real `1/√96`. -/
theorem scale_named : Cert.preserves_Kernel_KernelIdeal :=
  IdealRules.named_const.statement Cert.KernelIdeal.κ "scale" .bf16 0x3DD1#16 (((Real.sqrt 96)⁻¹ : ℝ) : EReal) rfl

end Cert.Proof

end
-- ==== Proof.Spec.lean ====
/- The attention as formulas on the extended reals, and the one identity of its two forms: a softmax with the row's
   maximum taken off and its weights divided before the product, against exponentials whose product with the values is
   divided by their sum. -/
module

public import Idealize.ShloMosaic.PureOps.Ideal
public import Idealize.ShloMosaic.Lib.Pointwise

@[expose] public section

noncomputable section

namespace Cert.Spec

open Idealize.ShloMosaic

/-- Rank-2 and rank-3 arrays by their coordinates. -/
abbrev at2 {K N : ℕ} (w : (⟨2, ![K, N]⟩ : Shape).Idx → EReal) (d : Fin K) (n : Fin N) : EReal := w (ix2 d n)
abbrev at3 {A B K : ℕ} (x : (⟨3, ![A, B, K]⟩ : Shape).Idx → EReal) (b : Fin A) (s : Fin B) (d : Fin K) : EReal := x (ix3 b s d)

/-- A batch of rows times a matrix. -/
def mix {K N : ℕ} (a : Fin 2 → Fin 256 → Fin K → EReal) (w : Fin K → Fin N → EReal) (b : Fin 2) (s : Fin 256) (n : Fin N) :
    EReal := ∑ d : Fin K, a b s d * w d n

/-- The column of component `e` of head `h`. -/
def col {E N : ℕ} (h : Fin 16) (e : Fin E) (hN : N = 16 * E) : Fin N :=
  ⟨h.val * E + e.val, by
    have h1 := h.isLt; have h2 := e.isLt
    calc h.val * E + e.val < h.val * E + E := by omega
      _ = (h.val + 1) * E := by ring
      _ ≤ 16 * E := Nat.mul_le_mul_right _ h1
      _ = N := hN.symm⟩

theorem headOfCol_lt (n : Fin 1024) : n.val / 64 < 16 := by have := n.isLt; omega

/-- The head of a column of the heads' outputs. -/
def headOfCol (n : Fin 1024) : Fin 16 := ⟨n.val / 64, headOfCol_lt n⟩

/-- A head's score of row `s` against row `t`, not scaled. -/
def score (q k : Fin 2 → Fin 256 → Fin 1024 → EReal) (qr : Fin 2 → Fin 256 → Fin 512 → EReal)
    (kr : Fin 2 → Fin 256 → Fin 32 → EReal) (b : Fin 2) (h : Fin 16) (s t : Fin 256) : EReal :=
  (∑ e : Fin 64, q b s (col h e rfl) * k b t (col h e rfl)) + ∑ e : Fin 32, qr b s (col h e rfl) * kr b t e

/-- Values averaged by exponentials: one division, of the whole product. -/
def average (w v : Fin 256 → EReal) : EReal := Ideal.div (∑ t, Ideal.exp (w t) * v t) (∑ t, Ideal.exp (w t))

/-- The greatest of a row. -/
def top (w : Fin 256 → EReal) : EReal := Finset.univ.fold max ⊥ w

/-- Values averaged by a softmax. -/
def softmax (w v : Fin 256 → EReal) : EReal :=
  ∑ t, v t * Ideal.div (Ideal.exp (w t - top w)) (∑ u, Ideal.exp (w u - top w))

end Cert.Spec

end
-- ==== Proof.Payloads.lean ====
/- The kernel's values, read at an index: functions of the arrays that a device's buffers hold. -/
module

public import proofs.«01_k».proof.Proof.Spec
public import proofs.«01_k».proof.Proof.Body

@[expose] public section

noncomputable section

namespace Cert.KernelIdeal.Read

open Cert.KernelIdeal Cert.KernelIdeal.Gen Cert.KernelIdeal.Run Idealize.ShloMosaic Idealize.ShloMosaic.TcCoe
open Cert.Spec

/-- The row of a batch in the batches laid end to end. -/
def row (b : Fin 2) (s : Fin 256) : Fin 512 := ⟨b.val * 256 + s.val, by have := b.isLt; have := s.isLt; omega⟩
/-- The column of component `e` of head `i` of a half. -/
def place (i : Fin 8) (e : Fin 64) : Fin 512 := ⟨i.val * 64 + e.val, by have := i.isLt; have := e.isLt; omega⟩
def placeR (i : Fin 8) (e : Fin 32) : Fin 256 := ⟨i.val * 32 + e.val, by have := i.isLt; have := e.isLt; omega⟩

section Heads

variable (q : FVec Ideal S512x512 .f32) (qr : FVec Ideal S512x256 .f32) (k v : FVec Ideal S512x512 .f32) (kr : FVec Ideal S512x32 .f32)

/-- A head's scores from the flattened arrays. -/
def flatScore (b : Fin 2) (i : Fin 8) (s t : Fin 256) : EReal :=
  (∑ e : Fin 64, q (ix2 (row b s) (place i e)) * k (ix2 (row b t) (place i e)))
    + ∑ e : Fin 32, qr (ix2 (row b s) (placeR i e)) * kr (ix2 (row b t) e)

theorem expScores_apply (b : Fin 2) (i : Fin 8) (s t : Fin 256) :
    expScores q qr k kr b i (ix2 s t) = Ideal.exp (flatScore q qr k kr b i s t) := by
  pointwise [expScores, flatScore]
  rfl

theorem headVal_apply (b : Fin 2) (i : Fin 8) (s : Fin 256) (e : Fin 64) :
    headVal q qr k v kr b i (ix2 s e)
      = average (fun t => flatScore q qr k kr b i s t) (fun t => v (ix2 (row b t) (place i e))) := by
  pointwise [headVal, average, expScores_apply]
  rfl

end Heads

section Products

variable (x : FVec Ideal S512x1024 .bf16) (dkv : FVec Ideal S1024x96 .bf16)

theorem k0_pay3_apply (wq : Vec Ideal S1024x512 .bf16) (r p : Fin 512) :
    k0_pay3 x wq (ix2 r p) = ∑ d : Fin 1024, (x (ix2 r d) * (((Real.sqrt 96)⁻¹ : ℝ) : EReal)) * wq (ix2 d p) := by
  have hκ : Named.named (F := Ideal) Cert.KernelIdeal.κ "scale" (φ := .bf16) 0x3DD1#16 = (((Real.sqrt 96)⁻¹ : ℝ) : EReal) :=
    IdealRules.named_const.ideal_named_scalar _ _ _ _ rfl
  pointwise [k0_pay3, k0_pay2, hκ]

theorem k0_pay4_apply (wqr : Vec Ideal S1024x256 .bf16) (r : Fin 512) (p : Fin 256) :
    k0_pay4 x wqr (ix2 r p) = ∑ d : Fin 1024, (x (ix2 r d) * (((Real.sqrt 96)⁻¹ : ℝ) : EReal)) * wqr (ix2 d p) := by
  have hκ : Named.named (F := Ideal) Cert.KernelIdeal.κ "scale" (φ := .bf16) 0x3DD1#16 = (((Real.sqrt 96)⁻¹ : ℝ) : EReal) :=
    IdealRules.named_const.ideal_named_scalar _ _ _ _ rfl
  pointwise [k0_pay4, k0_pay2, hκ]

theorem k0_pay5_apply (r : Fin 512) (e : Fin 32) :
    k0_pay5 x dkv (ix2 r e) = ∑ d : Fin 1024, x (ix2 r d) * dkv (ix2 d ⟨64 + e.val, by have := e.isLt; omega⟩) := by
  pointwise [k0_pay5]

theorem k0_pay86_apply (y : Vec Ideal S2x256x1024 .bf16) (b : Fin 2) (s : Fin 256) (d : Fin 1024) :
    k0_pay86 y (ix2 (row b s) d) = y (ix3 b s d) := by
  pointwise [k0_pay86]
  have hs := s.isLt
  rw [show (⟨(row b s).val / 256, _⟩ : Fin 2) = b from Fin.ext (by simp only [row]; omega),
    show (⟨(row b s).val % 256, _⟩ : Fin 256) = s from Fin.ext (by simp only [row]; omega)]

theorem k0_pay87_apply (w : Vec Ideal S1024x96 .bf16) : k0_pay87 w = w := by
  funext i; rw [← ix2_eta i]
  pointwise [k0_pay87]

theorem k0_pay88_apply (y : Vec Ideal S2x256x1024 .bf16) (w : Vec Ideal S1024x96 .bf16) (b : Fin 2) (s : Fin 256) (l : Fin 64) :
    k0_pay89 (k0_pay88 y w) (ix2 (row b s) l)
      = ∑ d : Fin 1024, y (ix3 b s d) * w (ix2 d ⟨l.val, by have := l.isLt; omega⟩) := by
  pointwise [k0_pay89, k0_pay88, k0_pay87_apply, k0_pay86_apply]

theorem k0_pay8_apply (c cr : Vec Ideal S512x64 .bf16) (u ur : Vec Ideal S128x512 .bf16) (r p : Fin 512) :
    k0_pay8 c cr ur (k0_pay7 u) (ix2 r p)
      = (∑ l : Fin 64, c (ix2 r l) * u (ix2 ⟨l.val, by have := l.isLt; omega⟩ p))
        + ∑ l : Fin 64, cr (ix2 r l) * ur (ix2 ⟨l.val, by have := l.isLt; omega⟩ p) := by
  pointwise [k0_pay8, k0_pay7, k0_pay6]

theorem k0_pay9_apply (c cr : Vec Ideal S512x64 .bf16) (u ur : Vec Ideal S128x512 .bf16) (r p : Fin 512) :
    k0_pay9 c cr (k0_pay6 u) ur (ix2 r p)
      = (∑ l : Fin 64, c (ix2 r l) * u (ix2 ⟨64 + l.val, by have := l.isLt; omega⟩ p))
        + ∑ l : Fin 64, cr (ix2 r l) * ur (ix2 ⟨64 + l.val, by have := l.isLt; omega⟩ p) := by
  pointwise [k0_pay9, k0_pay6]

theorem k0_pay91_apply (o : Vec Ideal S256x1024 .bf16) (w : Vec Ideal S1024x1024 .bf16) (s : Fin 256) (n : Fin 1024) :
    k0_pay91 o w (ix2 s n) = ∑ d : Fin 1024, o (ix2 s d) * w (ix2 d n) := by
  pointwise [k0_pay91]

theorem k0_pay1_apply (y : FVec Ideal S256x1024 .bf16) (s : Fin 256) (n : Fin 1024) :
    k0_pay1 y (ix3 0 s n) = y (ix2 s n) := by
  pointwise [k0_pay1]

end Products

end Cert.KernelIdeal.Read

end
-- ==== Proof.Device.lean ====
/- What a device's buffers hold when the kernel starts, read at an index. -/
module

public import proofs.«01_k».proof.Proof.Payloads
public import proofs.«01_k».proof.Proof.Protocol
public import Idealize.ShloMosaic.Lib.Pipeline.ValueKit
public import Idealize.ShloMosaic.Lib.Claim

@[expose] public section

noncomputable section

namespace Cert.KernelIdeal.Read

open Cert.KernelIdeal Cert.KernelIdeal.Gen Cert.KernelIdeal.Run Idealize.ShloMosaic Idealize.ShloMosaic.TcCoe
open Cert.Spec

variable (m : (ℓ : Loc nD τ sig) → Buf (Elt Ideal) ℓ) (c : Dev nD)

abbrev arg0 : S2x256x1024.Idx → EReal := m ((c.tc : Thread nD τ).loc main_arg0)
abbrev arg1 : S1024x64.Idx → EReal := m ((c.tc : Thread nD τ).loc main_arg1)
abbrev arg2 : S64x1024.Idx → EReal := m ((c.tc : Thread nD τ).loc main_arg2)
abbrev arg3 : S64x1024.Idx → EReal := m ((c.tc : Thread nD τ).loc main_arg3)
abbrev arg4 : S1024x1024.Idx → EReal := m ((c.tc : Thread nD τ).loc main_arg4)
abbrev arg5 : S1024x512.Idx → EReal := m ((c.tc : Thread nD τ).loc main_arg5)
abbrev arg6 : S1024x32.Idx → EReal := m ((c.tc : Thread nD τ).loc main_arg6)
abbrev arg7 : S1024x1024.Idx → EReal := m ((c.tc : Thread nD τ).loc main_arg7)

theorem index_0 : win0_0.index t0_0 = ![0, 0, 0] := by decide +kernel
theorem index_1 : win0_1.index t0_0 = ![0, 0] := by decide +kernel
theorem index_2 : win0_2.index t0_0 = ![0, 0] := by decide +kernel
theorem index_3 : win0_3.index t0_0 = ![0, 0] := by decide +kernel
theorem index_4 : win0_4.index t0_0 = ![0, 0] := by decide +kernel
theorem index_5 : win0_5.index t0_0 = ![0, 0] := by decide +kernel

theorem gX_apply (b : Fin 2) (s : Fin 256) (d : Fin 1024) : gX m c (ix3 b s d) = arg0 m c (ix3 b s d) := by
  blk_ext [gX, iblk, V, index_0]

theorem gWq_apply (d n : Fin 1024) : gWq m c (ix2 d n) = arg4 m c (ix2 d n) := by
  blk_ext [gWq, iblk, V, index_3]

theorem gWqr_apply (d : Fin 1024) (n : Fin 512) : gWqr m c (ix2 d n) = arg5 m c (ix2 d n) := by
  blk_ext [gWqr, iblk, V, index_4]

theorem gWo_apply (d n : Fin 1024) : gWo m c (ix2 d n) = arg7 m c (ix2 d n) := by
  blk_ext [gWo, iblk, V, index_5]

theorem emb_1 (d : Fin 1024) (n : Fin 96) : (win0_1.blk t0_0).view.emb (ix2 d n) = ix2 d n := by
  blk_ext [index_1]

theorem emb_2 (l : Fin 128) (n : Fin 1024) : (win0_2.blk t0_0).view.emb (ix2 l n) = ix2 l n := by
  blk_ext [index_2]

theorem gDkv_left (d : Fin 1024) (l : Fin 64) :
    gDkv m c (ix2 d ⟨l.val, by have := l.isLt; omega⟩) = arg1 m c (ix2 d l) := by
  unfold gDkv iblk
  entry_read
  blk_simp
  rw [emb_1]
  pointwise

theorem gDkv_right (d : Fin 1024) (l : Fin 32) :
    gDkv m c (ix2 d ⟨64 + l.val, by have := l.isLt; omega⟩) = arg6 m c (ix2 d l) := by
  unfold gDkv iblk
  entry_read
  blk_simp
  rw [emb_1]
  pointwise

theorem gUkv_top (l : Fin 64) (n : Fin 1024) :
    gUkv m c (ix2 ⟨l.val, by have := l.isLt; omega⟩ n) = arg2 m c (ix2 l n) := by
  unfold gUkv iblk
  entry_read
  blk_simp
  rw [emb_2]
  pointwise

theorem gUkv_bottom (l : Fin 64) (n : Fin 1024) :
    gUkv m c (ix2 ⟨64 + l.val, by have := l.isLt; omega⟩ n) = arg3 m c (ix2 l n) := by
  unfold gUkv iblk
  entry_read
  blk_simp
  rw [emb_2]
  pointwise

/-- The column of half `h` at place `p`. -/
def wide {N M : ℕ} (h : Fin 2) (p : Fin N) (hM : M = 2 * N) : Fin M :=
  ⟨h.val * N + p.val, by
    have h1 := h.isLt; have h2 := p.isLt
    have : h.val * N ≤ 1 * N := Nat.mul_le_mul_right _ (by omega)
    omega⟩

/-- A rectangle of unit stride in a matrix puts its element `(r, p)` at the place its corner gives. -/
theorem emb_unit {K N K' N' : ℕ} (off : Fin 2 → ℕ) (inb : ∀ a, off a + (⟨2, ![K', N']⟩ : Shape).size a ≤ (⟨2, ![K, N]⟩ : Shape).size a)
    (r : Fin K') (p : Fin N') (i : Fin K) (j : Fin N) (hi : i.val = off 0 + r.val) (hj : j.val = off 1 + p.val) :
    (Rect.unit (s := ⟨2, ![K, N]⟩) off (⟨2, ![K', N']⟩ : Shape).size inb).emb (ix2 r p) = ix2 i j :=
  funext fun a => Fin.ext (by
    rw [Rect.emb_apply]
    show off a + 1 * (ix2 r p a).val = _
    rw [Nat.one_mul]
    match a with
    | ⟨0, _⟩ => exact hi.symm
    | ⟨1, _⟩ => exact hj.symm)

theorem uVal_apply (l : Fin 128) (p : Fin 512) : uVal m c (ix2 l p) = gUkv m c (ix2 l (wide (hf c) p rfl)) :=
  congrArg (gUkv m c) (emb_unit (ukvOff (hf c)) (ukv_inb (hf c)) l p l (wide (hf c) p rfl) (Nat.zero_add _).symm rfl)

theorem wq_half (d : Fin 1024) (p : Fin 512) :
    (wqM.access (wqR (hf c))).read (Elt Ideal) (gWq m c) (ix2 d p) = arg4 m c (ix2 d (wide (hf c) p rfl)) :=
  (congrArg (gWq m c) (emb_unit (wqOff (hf c)) (wq_inb (hf c)) d p d (wide (hf c) p rfl) (Nat.zero_add _).symm rfl)).trans
    (gWq_apply m c _ _)

theorem wqr_half (d : Fin 1024) (p : Fin 256) :
    (wqrM.access (wqrR (hf c))).read (Elt Ideal) (gWqr m c) (ix2 d p) = arg5 m c (ix2 d (wide (hf c) p rfl)) :=
  (congrArg (gWqr m c) (emb_unit (wqrOff (hf c)) (wqr_inb (hf c)) d p d (wide (hf c) p rfl) (Nat.zero_add _).symm rfl)).trans
    (gWqr_apply m c _ _)

theorem o_rows (o : S512x1024.Idx → EReal) (b : Fin 2) (s : Fin 256) (n : Fin 1024) :
    (oM.access (rowsR b)).read (Elt Ideal) o (ix2 s n) = o (ix2 (row b s) n) :=
  congrArg o (emb_unit (rowsOff b) (rows_inb b) s n (row b s) n rfl (Nat.zero_add _).symm)

end Cert.KernelIdeal.Read

end
-- ==== Proof.Value.lean ====
/- A device's result as a formula of the whole arrays of which the devices hold their parts. -/
module

public import proofs.«01_k».proof.Proof.Device

@[expose] public section

noncomputable section

namespace Cert.KernelIdeal.Read

open Cert.KernelIdeal Cert.KernelIdeal.Gen Cert.KernelIdeal.Run Idealize.ShloMosaic Idealize.ShloMosaic.TcCoe
open Cert.Spec

variable (m : (ℓ : Loc nD τ sig) → Buf (Elt Ideal) ℓ) (c : Dev nD)

/-- The half of the latents a device holds: its place on the first axis. -/
def lat (c : Dev nD) : Fin 2 := ⟨c.val / 8, by have := c.isLt; simp only [nD] at this; omega⟩

theorem lat_xp (c : Dev nD) : lat (xp c) = 1 - lat c := by revert c; decide

/-- The devices hold their parts of whole arrays: the latents' matrices by halves, the rest in full. -/
structure Parts (x : Fin 2 → Fin 256 → Fin 1024 → EReal) (dkv : Fin 1024 → Fin 128 → EReal) (uk uv : Fin 128 → Fin 1024 → EReal)
    (wq : Fin 1024 → Fin 1024 → EReal) (wqr : Fin 1024 → Fin 512 → EReal) (wkr : Fin 1024 → Fin 32 → EReal)
    (wo : Fin 1024 → Fin 1024 → EReal) : Prop where
  x_eq : ∀ c b s d, arg0 m c (ix3 b s d) = x b s d
  dkv_eq : ∀ c d l, arg1 m c (ix2 d l) = dkv d (wide (lat c) l rfl)
  uk_eq : ∀ c l n, arg2 m c (ix2 l n) = uk (wide (lat c) l rfl) n
  uv_eq : ∀ c l n, arg3 m c (ix2 l n) = uv (wide (lat c) l rfl) n
  wq_eq : ∀ c d n, arg4 m c (ix2 d n) = wq d n
  wqr_eq : ∀ c d n, arg5 m c (ix2 d n) = wqr d n
  wkr_eq : ∀ c d n, arg6 m c (ix2 d n) = wkr d n
  wo_eq : ∀ c d n, arg7 m c (ix2 d n) = wo d n

/-- A sum over the latents, half by half in either order. -/
theorem sum_halves (f : Fin 128 → EReal) (h : Fin 2) :
    (∑ l : Fin 64, f (wide h l rfl)) + ∑ l : Fin 64, f (wide (1 - h) l rfl) = ∑ l, f l := by
  have key : (∑ l : Fin 64, f (wide 0 l rfl)) + ∑ l : Fin 64, f (wide 1 l rfl) = ∑ l, f l := by
    rw [Fin.sum_univ_add (a := 64) (b := 64) f]
    refine congrArg₂ (· + ·) (Finset.sum_congr rfl fun l _ => congrArg f (Fin.ext ?_)) (Finset.sum_congr rfl fun l _ => congrArg f (Fin.ext ?_))
    · simp [wide]
    · simp [wide, Nat.add_comm]
  match h with
  | 0 => exact key
  | 1 => exact (add_comm _ _).trans key

variable {m}
variable {x : Fin 2 → Fin 256 → Fin 1024 → EReal} {dkv : Fin 1024 → Fin 128 → EReal} {uk uv : Fin 128 → Fin 1024 → EReal}
  {wq : Fin 1024 → Fin 1024 → EReal} {wqr : Fin 1024 → Fin 512 → EReal} {wkr : Fin 1024 → Fin 32 → EReal}
  {wo : Fin 1024 → Fin 1024 → EReal}

/-- The activations scaled before their projection. -/
def scaledX (x : Fin 2 → Fin 256 → Fin 1024 → EReal) (b : Fin 2) (s : Fin 256) (d : Fin 1024) : EReal :=
  x b s d * (((Real.sqrt 96)⁻¹ : ℝ) : EReal)

/-- The head `i` of a half. -/
def headIn (h : Fin 2) (i : Fin 8) : Fin 16 := ⟨h.val * 8 + i.val, by have := h.isLt; have := i.isLt; omega⟩

theorem wide_place (h : Fin 2) (i : Fin 8) (e : Fin 64) : wide h (place i e) rfl = (col (headIn h i) e rfl : Fin 1024) :=
  Fin.ext (by simp only [wide, place, col, headIn]; ring)
theorem wide_placeR (h : Fin 2) (i : Fin 8) (e : Fin 32) : wide h (placeR i e) rfl = (col (headIn h i) e rfl : Fin 512) :=
  Fin.ext (by simp only [wide, placeR, col, headIn]; ring)

variable (P : Parts m x dkv uk uv wq wqr wkr wo)
include P

theorem x_flat (b : Fin 2) (s : Fin 256) (d : Fin 1024) : k0_pay86 (gX m c) (ix2 (row b s) d) = x b s d := by
  rw [k0_pay86_apply, gX_apply, P.x_eq]

theorem c_apply (b : Fin 2) (s : Fin 256) (l : Fin 64) :
    cVal m c (ix2 (row b s) l) = mix x dkv b s (wide (lat c) l rfl) := by
  refine (k0_pay88_apply _ _ b s l).trans ?_
  exact Finset.sum_congr rfl fun d _ => by rw [gX_apply, gDkv_left, P.x_eq, P.dkv_eq]

theorem u_top (l : Fin 64) (p : Fin 512) :
    uVal m c (ix2 ⟨l.val, by have := l.isLt; omega⟩ p) = uk (wide (lat c) l rfl) (wide (hf c) p rfl) := by
  rw [uVal_apply, gUkv_top, P.uk_eq]

theorem u_bottom (l : Fin 64) (p : Fin 512) :
    uVal m c (ix2 ⟨64 + l.val, by have := l.isLt; omega⟩ p) = uv (wide (lat c) l rfl) (wide (hf c) p rfl) := by
  rw [uVal_apply, gUkv_bottom, P.uv_eq]

theorem key_apply (b : Fin 2) (t : Fin 256) (p : Fin 512) :
    k0_pay8 (cVal m c) (cVal m (xp c)) (uVal m (xp c)) (k0_pay7 (uVal m c)) (ix2 (row b t) p)
      = mix (mix x dkv) uk b t (wide (hf c) p rfl) := by
  rw [k0_pay8_apply]
  simp only [c_apply _ P, u_top _ P, hf_xp, lat_xp]
  exact sum_halves (fun l => mix x dkv b t l * uk l (wide (hf c) p rfl)) (lat c)

theorem value_apply (b : Fin 2) (t : Fin 256) (p : Fin 512) :
    k0_pay9 (cVal m c) (cVal m (xp c)) (k0_pay6 (uVal m c)) (uVal m (xp c)) (ix2 (row b t) p)
      = mix (mix x dkv) uv b t (wide (hf c) p rfl) := by
  rw [k0_pay9_apply]
  simp only [c_apply _ P, u_bottom _ P, hf_xp, lat_xp]
  exact sum_halves (fun l => mix x dkv b t l * uv l (wide (hf c) p rfl)) (lat c)

theorem query_apply (b : Fin 2) (s : Fin 256) (p : Fin 512) :
    k0_pay3 (k0_pay86 (gX m c)) ((wqM.access (wqR (hf c))).read (Elt Ideal) (gWq m c)) (ix2 (row b s) p)
      = mix (scaledX x) wq b s (wide (hf c) p rfl) := by
  rw [k0_pay3_apply]
  exact Finset.sum_congr rfl fun d _ => by rw [x_flat _ P, wq_half, P.wq_eq]; rfl

theorem queryR_apply (b : Fin 2) (s : Fin 256) (p : Fin 256) :
    k0_pay4 (k0_pay86 (gX m c)) ((wqrM.access (wqrR (hf c))).read (Elt Ideal) (gWqr m c)) (ix2 (row b s) p)
      = mix (scaledX x) wqr b s (wide (hf c) p rfl) := by
  rw [k0_pay4_apply]
  exact Finset.sum_congr rfl fun d _ => by rw [x_flat _ P, wqr_half, P.wqr_eq]; rfl

theorem keyR_apply (b : Fin 2) (t : Fin 256) (e : Fin 32) :
    k0_pay5 (k0_pay86 (gX m c)) (k0_pay87 (gDkv m c)) (ix2 (row b t) e) = mix x wkr b t e := by
  rw [k0_pay5_apply, k0_pay87_apply]
  exact Finset.sum_congr rfl fun d _ => by rw [x_flat _ P, gDkv_right, P.wkr_eq]

/-- One entry of a head: the values' column `n`, averaged by row `s`'s scores in head `h`. -/
def entry (x : Fin 2 → Fin 256 → Fin 1024 → EReal) (dkv : Fin 1024 → Fin 128 → EReal) (uk uv : Fin 128 → Fin 1024 → EReal)
    (wq : Fin 1024 → Fin 1024 → EReal) (wqr : Fin 1024 → Fin 512 → EReal) (wkr : Fin 1024 → Fin 32 → EReal)
    (h : Fin 16) (b : Fin 2) (s : Fin 256) (n : Fin 1024) : EReal :=
  average (fun t => score (mix (scaledX x) wq) (mix (mix x dkv) uk) (mix (scaledX x) wqr) (mix x wkr) b h s t)
    (fun t => mix (mix x dkv) uv b t n)

theorem head_apply (j : Fin 8) (e : Fin 2) (s : Fin 256) (p : Fin 64) :
    headOf m c j e (ix2 s p)
      = entry x dkv uk uv wq wqr wkr (headIn (hf c) (headIx j e)) (batIx j) s (col (headIn (hf c) (headIx j e)) p rfl) := by
  unfold headOf headVals entry
  rw [headVal_apply]
  simp only [flatScore, score, query_apply _ P, queryR_apply _ P, key_apply _ P, keyR_apply _ P, value_apply _ P,
    wide_place, wide_placeR]

omit P in
theorem hf_holder (h : Fin 2) : hf (holder c h) = h := by revert c h; decide

theorem o_apply (b : Fin 2) (s : Fin 256) (n : Fin 1024) :
    oVal m c (ix2 (row b s) n) = entry x dkv uk uv wq wqr wkr (headOfCol n) b s n := by
  have hs := s.isLt; have hb := b.isLt; have hn := n.isLt
  have hi : inHead (ix2 (row b s) n) = ix2 s (⟨n.val % 64, Nat.mod_lt _ (by decide)⟩ : Fin 64) := funext fun a => match a with
    | ⟨0, _⟩ => Fin.ext (show (b.val * 256 + s.val) % 256 = s.val by omega)
    | ⟨1, _⟩ => rfl
  have hh : headIn (hf (holder c (halfAt (ix2 (row b s) n)))) (headIx (pairAt (ix2 (row b s) n)) (placeAt (ix2 (row b s) n)))
      = headOfCol n := by
    rw [hf_holder]
    exact Fin.ext (show n.val / 512 * 8 + (((b.val * 256 + s.val) / 256 * 4 + n.val % 512 / 128) % 4 * 2 + n.val % 128 / 64)
      = n.val / 64 by omega)
  have hbat : batIx (pairAt (ix2 (row b s) n)) = b :=
    Fin.ext (show ((b.val * 256 + s.val) / 256 * 4 + n.val % 512 / 128) / 4 = b.val by omega)
  have hc : col (headOfCol n) (⟨n.val % 64, Nat.mod_lt _ (by decide)⟩ : Fin 64) rfl = n := Fin.ext (Nat.div_add_mod' n.val 64)
  unfold oVal
  rw [hi, head_apply _ P, hh, hbat, hc]

theorem out_apply (b : Fin 2) (s : Fin 256) (o : Fin 1024) :
    outVal m c (ix3 b s o) = mix (fun b s n => entry x dkv uk uv wq wqr wkr (headOfCol n) b s n) wo b s o := by
  show k0_pay1 (projOf m c b) (inBatch (ix3 b s o)) = _
  rw [show inBatch (ix3 b s o) = ix3 0 s o from ?_, k0_pay1_apply]
  · unfold projOf
    rw [k0_pay91_apply]
    exact Finset.sum_congr rfl fun n _ => by rw [o_rows, o_apply _ P, gWo_apply, P.wo_eq]
  · exact (ix3_eta _).symm

end Cert.KernelIdeal.Read

end
-- ==== Proof.Consts.lean ====
/- The constants of the two programs, as extended reals. -/
module

public import Idealize.ShloMosaic.PureOps.Ideal
public import Idealize.ShloMosaic.Lib.Pointwise

@[expose] public section

namespace Cert.Consts

open Idealize.ShloMosaic

theorem neg_inf : Ideal.ofBits .f32 0xFF800000#32 = ⊥ := by
  simp [Ideal.ofBits, Ideal.ieee, -EReal.coe_mul]

theorem pos_inf : Ideal.ofBits .f32 0x7F800000#32 = ⊤ := by
  simp [Ideal.ofBits, Ideal.ieee, -EReal.coe_mul]

theorem width : Ideal.ofBits .f32 0x42C00000#32 = ((96 : ℝ) : EReal) := by
  simp [Ideal.ofBits, Ideal.ieee, -EReal.coe_mul]; norm_num

end Cert.Consts
-- ==== Proof.Reference.lean ====
/- The reference's result, read at an index. -/
module

public import proofs.«01_k».proof.Proof.Spec
public import proofs.«01_k».proof.Proof.Consts
public import proofs.«01_k».proof.Proof.Gen.ReferenceIdeal.Run
public import Idealize.ShloMosaic.Lib.Pointwise

@[expose] public section

noncomputable section

namespace Cert.ReferenceIdeal.Read

open Cert.ReferenceIdeal Cert.ReferenceIdeal.Gen Idealize.ShloMosaic Idealize.ShloMosaic.TcCoe
open Cert.Spec

variable (x : FVec Ideal S2x256x1024 .f32) (dkv : FVec Ideal S1024x128 .f32) (uk uv : FVec Ideal S128x1024 .f32)
  (wq wo : FVec Ideal S1024x1024 .f32) (wqr : FVec Ideal S1024x512 .f32) (wkr : FVec Ideal S1024x32 .f32)

def latent : FVec Ideal S2x256x128 .f32 := Host.dotGeneral dot_S2x256x1024_S1024x128_S2x256x128_2_0_01_1_n_n none x dkv
def up (u : FVec Ideal S128x1024 .f32) : FVec Ideal S2x256x16x64 .f32 :=
  shapeCast _ (Host.dotGeneral dot_S2x256x128_S128x1024_S2x256x1024_2_0_01_1_n_n none (latent x dkv) u) shapeCasts_S2x256x1024_S2x256x16x64
def query : FVec Ideal S2x256x16x64 .f32 :=
  shapeCast _ (Host.dotGeneral dot_S2x256x1024_S1024x1024_S2x256x1024_2_0_01_1_n_n none x wq) shapeCasts_S2x256x1024_S2x256x16x64
def queryR : FVec Ideal S2x256x16x32 .f32 :=
  shapeCast _ (Host.dotGeneral dot_S2x256x1024_S1024x512_S2x256x512_2_0_01_1_n_n none x wqr) shapeCasts_S2x256x512_S2x256x16x32
def keyR : FVec Ideal S2x256x16x32 .f32 :=
  broadcastInDim S2x256x16x32 ![0, 1, 2, 3] bcast_S2x256x1x32_S2x256x16x32_0_1_2_3
    (shapeCast _ (Host.dotGeneral dot_S2x256x1024_S1024x32_S2x256x32_2_0_01_1_n_n none x wkr) shapeCasts_S2x256x32_S2x256x1x32)

def scores : FVec Ideal S2x16x256x256 .f32 :=
  Host.divf (addf
      (Host.dotGeneral dot_S2x256x16x64_S2x256x16x64_S2x16x256x256_3_3_1_1_02_02 none (query x wq) (up x dkv uk))
      (Host.dotGeneral dot_S2x256x16x32_S2x256x16x32_S2x16x256x256_3_3_1_1_02_02 none (queryR x wqr) (keyR x wkr)))
    (broadcastInDim S2x16x256x256 ![] bcast_S_S2x16x256x256 (Host.sqrt (constant S_ .f32 0x42C00000#32)))
def greatest (s : FVec Ideal S2x16x256x256 .f32) : FVec Ideal S2x16x256 .f32 :=
  Host.reduce FloatOps.maximumf s (constant S_ .f32 0xFF800000#32) reducesTo_S2x16x256x256_S2x16x256_d3 h_S_
def weights (s : FVec Ideal S2x16x256x256 .f32) : FVec Ideal S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2 (greatest s))))
def shares (w : FVec Ideal S2x16x256x256 .f32) : FVec Ideal S2x16x256x256 .f32 :=
  Host.divf w (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd w (constant S_ .f32 0x00000000#32) reducesTo_S2x16x256x256_S2x16x256_d3 h_S_)))
def heads : FVec Ideal S2x256x1024 .f32 :=
  shapeCast _ (transpose S2x256x16x64 [0, 3, 1, 2]
    (Host.dotGeneral dot_S2x256x16x64_S2x16x256x256_S2x16x64x256_1_3_3_2_02_01 none (up x dkv uv)
      (shares (weights (scores x dkv uk wq wqr wkr)))) transposes_S2x16x64x256_S2x256x16x64_0_3_1_2) shapeCasts_S2x256x16x64_S2x256x1024
def result : FVec Ideal S2x256x1024 .bf16 :=
  truncf .bf16 (Host.dotGeneral dot_S2x256x1024_S1024x1024_S2x256x1024_2_0_01_1_n_n none (heads x dkv uk uv wq wqr wkr) wo)

theorem latent_apply (b : Fin 2) (s : Fin 256) (l : Fin 128) : latent x dkv (ix3 b s l) = mix (at3 x) (at2 dkv) b s l := by
  pointwise [latent, mix]

theorem up_apply (u : FVec Ideal S128x1024 .f32) (b : Fin 2) (s : Fin 256) (h : Fin 16) (e : Fin 64) :
    up x dkv u (ix4 b s h e) = mix (mix (at3 x) (at2 dkv)) (at2 u) b s (col h e rfl) := by
  pointwise [up, mix, latent_apply]
  rfl

theorem query_apply (b : Fin 2) (s : Fin 256) (h : Fin 16) (e : Fin 64) :
    query x wq (ix4 b s h e) = mix (at3 x) (at2 wq) b s (col h e rfl) := by
  pointwise [query, mix]
  rfl

theorem queryR_apply (b : Fin 2) (s : Fin 256) (h : Fin 16) (e : Fin 32) :
    queryR x wqr (ix4 b s h e) = mix (at3 x) (at2 wqr) b s (col h e rfl) := by
  pointwise [queryR, mix]
  rfl

theorem keyR_apply (b : Fin 2) (s : Fin 256) (h : Fin 16) (e : Fin 32) :
    keyR x wkr (ix4 b s h e) = mix (at3 x) (at2 wkr) b s e := by
  pointwise [keyR, mix]

/-- A head's scaled score, as the reference computes it. -/
def scaled (b : Fin 2) (h : Fin 16) (s t : Fin 256) : EReal :=
  Ideal.div (score (mix (at3 x) (at2 wq)) (mix (mix (at3 x) (at2 dkv)) (at2 uk)) (mix (at3 x) (at2 wqr))
    (mix (at3 x) (at2 wkr)) b h s t) (Ideal.sqrt ((96 : ℝ) : EReal))

theorem scores_apply (b : Fin 2) (h : Fin 16) (s t : Fin 256) :
    scores x dkv uk wq wqr wkr (ix4 b h s t) = scaled x dkv uk wq wqr wkr b h s t := by
  rw [scaled, ← Consts.width]
  pointwise [scores, score, query_apply, up_apply, queryR_apply, keyR_apply]

theorem greatest_apply (w : FVec Ideal S2x16x256x256 .f32) (b : Fin 2) (h : Fin 16) (s : Fin 256) :
    greatest w (ix3 b h s) = top fun t => w (ix4 b h s t) := by
  rw [top, ← Consts.neg_inf]
  pointwise [greatest]

theorem weights_apply (w : FVec Ideal S2x16x256x256 .f32) (b : Fin 2) (h : Fin 16) (s t : Fin 256) :
    weights w (ix4 b h s t) = Ideal.exp (w (ix4 b h s t) - top fun t => w (ix4 b h s t)) := by
  pointwise [weights, greatest_apply]

theorem shares_apply (w : FVec Ideal S2x16x256x256 .f32) (b : Fin 2) (h : Fin 16) (s t : Fin 256) :
    shares w (ix4 b h s t) = Ideal.div (w (ix4 b h s t)) (∑ t, w (ix4 b h s t)) := by
  pointwise [shares]

theorem heads_apply (b : Fin 2) (s : Fin 256) (n : Fin 1024) :
    heads x dkv uk uv wq wqr wkr (ix3 b s n)
      = softmax (fun t => scaled x dkv uk wq wqr wkr b (headOfCol n) s t)
          (fun t => mix (mix (at3 x) (at2 dkv)) (at2 uv) b t n) := by
  pointwise [heads, softmax, shares_apply, weights_apply, scores_apply, up_apply]
  rw [show col (E := 64) ⟨n.val / 64, headOfCol_lt n⟩ ⟨n.val % 64, Nat.mod_lt _ (by decide)⟩ rfl = n from
    Fin.ext (Nat.div_add_mod' n.val 64)]
  rfl

theorem result_apply (b : Fin 2) (s : Fin 256) (o : Fin 1024) :
    result x dkv uk uv wq wo wqr wkr (ix3 b s o)
      = mix (fun b s n => softmax (fun t => scaled x dkv uk wq wqr wkr b (headOfCol n) s t)
          (fun t => mix (mix (at3 x) (at2 dkv)) (at2 uv) b t n)) (at2 wo) b s o := by
  pointwise [result, mix, heads_apply]

/-- The run's result is that of the stages. -/
theorem res_eq (m : (ℓ : Loc nD τ sig) → Buf (Elt Ideal) ℓ) (c : Dev nD) :
    Value.res_main_v31 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg7))
          (m ((c.tc : Thread nD τ).loc main_arg5)) (m ((c.tc : Thread nD τ).loc main_arg6)) := rfl

end Cert.ReferenceIdeal.Read

end
-- ==== Proof.Softmax.lean ====
/- The two forms of the attention agree: the scale may be taken out of the scores, and where the scores are real the
   greatest of a row cancels and the division moves over the sum of the values. -/
module

public import proofs.«01_k».proof.Proof.Spec

@[expose] public section

noncomputable section

namespace Cert.Spec

open Idealize.ShloMosaic

/-- A value is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) {f : ι → EReal} (hf : ∀ i, IsReal (f i)) : IsReal (∑ i ∈ s, f i) :=
  Finset.sum_induction f IsReal (fun _ _ => IsReal.add) ⟨0, rfl⟩ fun i _ => hf i

theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- A nonnegative real multiplies a sum of extended reals term by term. -/
theorem sum_mul_coe {ι : Type*} (s : Finset ι) (f : ι → EReal) {r : ℝ} (hr : 0 ≤ r) :
    (∑ i ∈ s, f i) * (r : EReal) = ∑ i ∈ s, f i * (r : EReal) := by
  have hr' : (0 : EReal) ≤ (r : EReal) := EReal.coe_nonneg.2 hr
  induction s using Finset.cons_induction with
  | empty => simp
  | cons a s ha ih =>
    rw [Finset.sum_cons, Finset.sum_cons, ← ih, EReal.right_distrib_of_nonneg_of_ne_top hr' (EReal.coe_ne_top r)]

theorem mix_isReal {K N : ℕ} {a : Fin 2 → Fin 256 → Fin K → EReal} {w : Fin K → Fin N → EReal}
    (ha : ∀ b s d, IsReal (a b s d)) (hw : ∀ d n, IsReal (w d n)) (b : Fin 2) (s : Fin 256) (n : Fin N) :
    IsReal (mix a w b s n) := IsReal.sum _ fun d => (ha b s d).mul (hw d n)

theorem mix_scaled {K N : ℕ} (a : Fin 2 → Fin 256 → Fin K → EReal) (w : Fin K → Fin N → EReal) {r : ℝ} (hr : 0 ≤ r)
    (b : Fin 2) (s : Fin 256) (n : Fin N) :
    mix (fun b s d => a b s d * (r : EReal)) w b s n = mix a w b s n * (r : EReal) := by
  unfold mix
  rw [sum_mul_coe _ _ hr]
  exact Finset.sum_congr rfl fun d _ => mul_right_comm _ _ _

section Score

variable {q k : Fin 2 → Fin 256 → Fin 1024 → EReal} {qr : Fin 2 → Fin 256 → Fin 512 → EReal}
  {kr : Fin 2 → Fin 256 → Fin 32 → EReal}

theorem score_isReal (hq : ∀ b s n, IsReal (q b s n)) (hk : ∀ b s n, IsReal (k b s n)) (hqr : ∀ b s n, IsReal (qr b s n))
    (hkr : ∀ b s n, IsReal (kr b s n)) (b : Fin 2) (h : Fin 16) (s t : Fin 256) : IsReal (score q k qr kr b h s t) :=
  (IsReal.sum _ fun _ => (hq _ _ _).mul (hk _ _ _)).add (IsReal.sum _ fun _ => (hqr _ _ _).mul (hkr _ _ _))

theorem score_scaled {r : ℝ} (hr : 0 ≤ r) (b : Fin 2) (h : Fin 16) (s t : Fin 256) :
    score (fun b s n => q b s n * (r : EReal)) k (fun b s n => qr b s n * (r : EReal)) kr b h s t
      = score q k qr kr b h s t * (r : EReal) := by
  unfold score
  rw [EReal.right_distrib_of_nonneg_of_ne_top (EReal.coe_nonneg.2 hr) (EReal.coe_ne_top r), sum_mul_coe _ _ hr, sum_mul_coe _ _ hr]
  exact congrArg₂ (· + ·) (Finset.sum_congr rfl fun _ _ => mul_right_comm _ _ _)
    (Finset.sum_congr rfl fun _ _ => mul_right_comm _ _ _)

end Score

/-- Dividing by the square root of 96 is multiplying by its inverse. -/
theorem div_sqrt (x : EReal) : Ideal.div x (Ideal.sqrt ((96 : ℝ) : EReal)) = x * (((Real.sqrt 96)⁻¹ : ℝ) : EReal) := by
  have h : Real.sqrt 96 ≠ 0 := (Real.sqrt_pos.2 (by norm_num)).ne'
  rw [Ideal.sqrt_coe, if_neg (by norm_num), Ideal.div_coe h, one_div]

/-- The greatest of a row of reals is one of them. -/
theorem top_coe (w : Fin 256 → ℝ) : ∃ M : ℝ, top (fun t => (w t : EReal)) = (M : EReal) := by
  obtain ⟨i, -, hi⟩ := Finset.exists_mem_eq_sup Finset.univ ⟨0, Finset.mem_univ _⟩ fun t => (w t : EReal)
  exact ⟨w i, hi⟩

theorem average_eq_softmax {w : Fin 256 → EReal} (hw : ∀ t, IsReal (w t)) (v : Fin 256 → EReal) : average w v = softmax w v := by
  obtain ⟨w, rfl⟩ : ∃ w' : Fin 256 → ℝ, w = fun t => (w' t : EReal) := ⟨fun t => (hw t).choose, funext fun t => (hw t).choose_spec⟩
  obtain ⟨M, hM⟩ := top_coe w
  have hZ : 0 < ∑ t, Real.exp (w t) := Finset.sum_pos (fun t _ => Real.exp_pos _) ⟨0, Finset.mem_univ _⟩
  have hE : Real.exp (-M) ≠ 0 := (Real.exp_pos _).ne'
  have hs : ∀ t, Ideal.exp ((w t : EReal) - (M : EReal)) = ((Real.exp (w t) * Real.exp (-M) : ℝ) : EReal) := fun t => by
    rw [← EReal.coe_sub, Ideal.exp_coe, ← Real.exp_add, sub_eq_add_neg]
  unfold average softmax
  simp only [hM, hs, Ideal.exp_coe]
  rw [← coe_sum, ← coe_sum, ← Finset.sum_mul, Ideal.div_coe hZ.ne', sum_mul_coe _ _ (one_div_nonneg.2 hZ.le)]
  refine Finset.sum_congr rfl fun t _ => ?_
  rw [Ideal.div_coe (mul_ne_zero hZ.ne' hE), mul_comm ((Real.exp (w t) : ℝ) : EReal), mul_assoc, ← EReal.coe_mul, ← EReal.coe_mul]
  refine congrArg (v t * ·) (congrArg Real.toEReal ?_)
  field_simp

end Cert.Spec

end
-- ==== Proof.Finite.lean ====
/- What the precondition says: the entries of the six arrays that enter the scores are real. -/
module

public import proofs.«01_k».proof.Defs
public import proofs.«01_k».proof.Proof.Softmax
public import proofs.«01_k».proof.Proof.Consts
public import proofs.«01_k».proof.Proof.Device

@[expose] public section

noncomputable section

namespace Cert.Finite

open Idealize.ShloMosaic Cert.Spec Cert.KernelIdeal Cert.KernelIdeal.Read

theorem facts_blocks : Cert.Pre_scores_finite_KernelIdeal.Facts :=
  ⟨by decide, by decide, by decide, by decide, by decide, by decide⟩

theorem facts_whole : Cert.Pre_scores_finite_ReferenceIdeal.Facts :=
  ⟨by decide, by decide, by decide, by decide, by decide, by decide⟩

theorem isReal_of_abs_lt {a : EReal} (h : Ideal.cmp .olt (max a (-a)) (Ideal.ofBits .f32 0x7F800000#32) = 1#1) : IsReal a := by
  rw [Consts.pos_inf] at h
  have ha : max a (-a) < ⊤ := (Ideal.cmp_olt_eq_one _ _).1 h
  induction a with
  | bot => simp at ha
  | coe r => exact ⟨r, rfl⟩
  | top => simp at ha

variable (m : (ℓ : Loc nD τ sig) → Buf (Elt Ideal) ℓ)

/-- The entries of the arrays in the scores are real on every device. -/
structure ScoresReal : Prop where
  x_real : ∀ c i, IsReal (arg0 m c i)
  dkv_real : ∀ c i, IsReal (arg1 m c i)
  uk_real : ∀ c i, IsReal (arg2 m c i)
  wq_real : ∀ c i, IsReal (arg4 m c i)
  wqr_real : ∀ c i, IsReal (arg5 m c i)
  wkr_real : ∀ c i, IsReal (arg6 m c i)

attribute [local instance] facts_blocks

theorem scoresReal_of_pre (h : Cert.Pre_KernelIdeal_scores_finite_KernelIdeal m) : ScoresReal m where
  x_real c i := isReal_of_abs_lt (congrFun (h c).1 i)
  dkv_real c i := isReal_of_abs_lt (congrFun (h c).2.1 i)
  uk_real c i := isReal_of_abs_lt (congrFun (h c).2.2.1 i)
  wq_real c i := isReal_of_abs_lt (congrFun (h c).2.2.2.1 i)
  wqr_real c i := isReal_of_abs_lt (congrFun (h c).2.2.2.2.1 i)
  wkr_real c i := isReal_of_abs_lt (congrFun (h c).2.2.2.2.2 i)

end Cert.Finite

end
-- ==== Proof.Agree.lean ====
/- The kernel's result is the reference's: each device's formula of the whole arrays against the reference's, and the
   claim that the two programs agree. -/
module

public import proofs.«01_k».proof.Proof.Value
public import proofs.«01_k».proof.Proof.Reference
public import proofs.«01_k».proof.Proof.Finite
public import proofs.«01_k».proof.Proof.Frames

@[expose] public section

noncomputable section

namespace Cert.Proof

open Idealize.ShloMosaic Idealize.SL.Sem Cert.Spec
open Cert.KernelIdeal.Read (wide lat Parts entry)
open Cert.ReferenceIdeal.Read (scaled)

section Formulas

variable {x : (⟨3, ![2, 256, 1024]⟩ : Shape).Idx → EReal} {dkv : (⟨2, ![1024, 128]⟩ : Shape).Idx → EReal}
  {uk uv : (⟨2, ![128, 1024]⟩ : Shape).Idx → EReal} {wq wo : (⟨2, ![1024, 1024]⟩ : Shape).Idx → EReal}
  {wqr : (⟨2, ![1024, 512]⟩ : Shape).Idx → EReal} {wkr : (⟨2, ![1024, 32]⟩ : Shape).Idx → EReal}

/-- The kernel's scores, of scaled activations, are the reference's, divided. -/
theorem score_eq (b : Fin 2) (h : Fin 16) (s t : Fin 256) :
    score (mix (KernelIdeal.Read.scaledX (at3 x)) (at2 wq)) (mix (mix (at3 x) (at2 dkv)) (at2 uk))
        (mix (KernelIdeal.Read.scaledX (at3 x)) (at2 wqr)) (mix (at3 x) (at2 wkr)) b h s t
      = scaled x dkv uk wq wqr wkr b h s t := by
  have hr : 0 ≤ (Real.sqrt 96)⁻¹ := inv_nonneg.2 (Real.sqrt_nonneg _)
  rw [scaled, div_sqrt, ← score_scaled hr]
  have hq : mix (KernelIdeal.Read.scaledX (at3 x)) (at2 wq)
      = fun b s n => mix (at3 x) (at2 wq) b s n * (((Real.sqrt 96)⁻¹ : ℝ) : EReal) :=
    funext fun b => funext fun s => funext fun n => mix_scaled _ _ hr b s n
  have hqr : mix (KernelIdeal.Read.scaledX (at3 x)) (at2 wqr)
      = fun b s n => mix (at3 x) (at2 wqr) b s n * (((Real.sqrt 96)⁻¹ : ℝ) : EReal) :=
    funext fun b => funext fun s => funext fun n => mix_scaled _ _ hr b s n
  rw [hq, hqr]

theorem scaled_isReal (hx : ∀ b s d, IsReal (at3 x b s d)) (hdkv : ∀ d l, IsReal (at2 dkv d l)) (huk : ∀ l n, IsReal (at2 uk l n))
    (hwq : ∀ d n, IsReal (at2 wq d n)) (hwqr : ∀ d n, IsReal (at2 wqr d n)) (hwkr : ∀ d n, IsReal (at2 wkr d n))
    (b : Fin 2) (h : Fin 16) (s t : Fin 256) : IsReal (scaled x dkv uk wq wqr wkr b h s t) := by
  rw [scaled, div_sqrt]
  exact (score_isReal (mix_isReal hx hwq) (mix_isReal (mix_isReal hx hdkv) huk) (mix_isReal hx hwqr) (mix_isReal hx hwkr)
    b h s t).mul ⟨_, rfl⟩

theorem entry_eq (hx : ∀ b s d, IsReal (at3 x b s d)) (hdkv : ∀ d l, IsReal (at2 dkv d l)) (huk : ∀ l n, IsReal (at2 uk l n))
    (hwq : ∀ d n, IsReal (at2 wq d n)) (hwqr : ∀ d n, IsReal (at2 wqr d n)) (hwkr : ∀ d n, IsReal (at2 wkr d n))
    (h : Fin 16) (b : Fin 2) (s : Fin 256) (n : Fin 1024) :
    entry (at3 x) (at2 dkv) (at2 uk) (at2 uv) (at2 wq) (at2 wqr) (at2 wkr) h b s n
      = softmax (fun t => scaled x dkv uk wq wqr wkr b h s t) (fun t => mix (mix (at3 x) (at2 dkv)) (at2 uv) b t n) := by
  unfold entry
  simp only [score_eq]
  exact average_eq_softmax (scaled_isReal hx hdkv huk hwq hwqr hwkr b h s) _

end Formulas

section Claim

open Cert.KernelIdeal.Read (arg0 arg1 arg2 arg3 arg4 arg5 arg6 arg7)

abbrev MemK := (ℓ : Loc KernelIdeal.nD KernelIdeal.τ KernelIdeal.sig) → Buf (Elt Ideal) ℓ
abbrev MemR := (ℓ : Loc ReferenceIdeal.nD ReferenceIdeal.τ ReferenceIdeal.sig) → Buf (Elt Ideal) ℓ

/-- An array of the reference's one device. -/
abbrev whole (m' : MemR) (b : Ref ReferenceIdeal.sig .tc) :=
  m' (((0 : Dev ReferenceIdeal.nD).tc : Thread ReferenceIdeal.nD ReferenceIdeal.τ).loc b)

/-- The arguments as the claim lays them out. -/
abbrev Laid (m : MemK) (m' : MemR) : Prop := ∀ c : Dev KernelIdeal.nD,
  arg0 m c = whole m' ReferenceIdeal.main_arg0
  ∧ arg1 m c = Layout.blockN ⟨2, ![1024, 64]⟩ ⟨2, ![1024, 128]⟩ (Layout.meshBlock [2, 2, 4] ![[], [0]] c) (whole m' ReferenceIdeal.main_arg1)
  ∧ arg2 m c = Layout.blockN ⟨2, ![64, 1024]⟩ ⟨2, ![128, 1024]⟩ (Layout.meshBlock [2, 2, 4] ![[0], []] c) (whole m' ReferenceIdeal.main_arg2)
  ∧ arg3 m c = Layout.blockN ⟨2, ![64, 1024]⟩ ⟨2, ![128, 1024]⟩ (Layout.meshBlock [2, 2, 4] ![[0], []] c) (whole m' ReferenceIdeal.main_arg3)
  ∧ arg4 m c = whole m' ReferenceIdeal.main_arg4 ∧ arg5 m c = whole m' ReferenceIdeal.main_arg5
  ∧ arg6 m c = whole m' ReferenceIdeal.main_arg6 ∧ arg7 m c = whole m' ReferenceIdeal.main_arg7

variable {m : MemK} {m' : MemR}

theorem coord_lat (c : Dev KernelIdeal.nD) : Layout.meshLin [2, 2, 4] c.val [0] = (lat c).val := by revert c; decide

theorem block_columns (c : Dev KernelIdeal.nD) (v : (⟨2, ![1024, 128]⟩ : Shape).Idx → EReal) (d : Fin 1024) (l : Fin 64) :
    (Layout.blockN ⟨2, ![1024, 64]⟩ ⟨2, ![1024, 128]⟩ (Layout.meshBlock [2, 2, 4] ![[], [0]] c) v) (ix2 d l)
      = v (ix2 d (wide (lat c) l rfl)) := by
  refine congrArg v (funext fun a => Fin.ext ?_)
  match a with
  | ⟨0, _⟩ => exact Nat.zero_add _
  | ⟨1, _⟩ => exact congrArg (· * 64 + l.val) (coord_lat c)

theorem block_rows (c : Dev KernelIdeal.nD) (v : (⟨2, ![128, 1024]⟩ : Shape).Idx → EReal) (l : Fin 64) (n : Fin 1024) :
    (Layout.blockN ⟨2, ![64, 1024]⟩ ⟨2, ![128, 1024]⟩ (Layout.meshBlock [2, 2, 4] ![[0], []] c) v) (ix2 l n)
      = v (ix2 (wide (lat c) l rfl) n) := by
  refine congrArg v (funext fun a => Fin.ext ?_)
  match a with
  | ⟨0, _⟩ => exact congrArg (· * 64 + l.val) (coord_lat c)
  | ⟨1, _⟩ => exact Nat.zero_add _

theorem parts_of_laid (L : Laid m m') :
    Parts m (at3 (whole m' ReferenceIdeal.main_arg0)) (at2 (whole m' ReferenceIdeal.main_arg1))
      (at2 (whole m' ReferenceIdeal.main_arg2)) (at2 (whole m' ReferenceIdeal.main_arg3))
      (at2 (whole m' ReferenceIdeal.main_arg4)) (at2 (whole m' ReferenceIdeal.main_arg5))
      (at2 (whole m' ReferenceIdeal.main_arg6)) (at2 (whole m' ReferenceIdeal.main_arg7)) where
  x_eq c _ _ _ := congrFun (L c).1 _
  dkv_eq c d l := (congrFun (L c).2.1 _).trans (block_columns c _ d l)
  uk_eq c l n := (congrFun (L c).2.2.1 _).trans (block_rows c _ l n)
  uv_eq c l n := (congrFun (L c).2.2.2.1 _).trans (block_rows c _ l n)
  wq_eq c _ _ := congrFun (L c).2.2.2.2.1 _
  wqr_eq c _ _ := congrFun (L c).2.2.2.2.2.1 _
  wkr_eq c _ _ := congrFun (L c).2.2.2.2.2.2.1 _
  wo_eq c _ _ := congrFun (L c).2.2.2.2.2.2.2 _

/-- Every latent is on some device. -/
theorem exists_lat (l : Fin 128) : ∃ (c : Dev KernelIdeal.nD) (k : Fin 64), wide (lat c) k rfl = l := by
  refine ⟨⟨l.val / 64 * 8, ?_⟩, ⟨l.val % 64, Nat.mod_lt _ (by decide)⟩, Fin.ext ?_⟩
  · have := l.isLt
    show l.val / 64 * 8 < 16
    omega
  · show l.val / 64 * 8 / 8 * 64 + l.val % 64 = l.val
    omega

theorem result_eq (R : Finite.ScoresReal m) (L : Laid m m') (c : Dev KernelIdeal.nD) :
    KernelIdeal.Run.outVal m c = ReferenceIdeal.Value.res_main_v31 m' 0 := by
  have P := parts_of_laid L
  suffices h : ∀ (b : Fin 2) (s : Fin 256) (o : Fin 1024),
      KernelIdeal.Run.outVal m c (ix3 b s o) = ReferenceIdeal.Value.res_main_v31 m' 0 (ix3 b s o) from
    funext fun i => (congrArg _ (ix3_eta i).symm).trans ((h (i 0) (i 1) (i 2)).trans (congrArg _ (ix3_eta i)))
  intro b s o
  refine (KernelIdeal.Read.out_apply c P b s o).trans (Eq.trans ?_ ((congrFun (ReferenceIdeal.Read.res_eq m' 0) _).trans
    (ReferenceIdeal.Read.result_apply _ _ _ _ _ _ _ _ b s o)).symm)
  refine Finset.sum_congr rfl fun n _ => congrArg (· * _) (entry_eq ?_ ?_ ?_ ?_ ?_ ?_ _ _ _ _)
  · exact fun b s d => P.x_eq 0 b s d ▸ R.x_real 0 _
  · intro d l
    obtain ⟨c, k, rfl⟩ := exists_lat l
    exact P.dkv_eq c d k ▸ R.dkv_real c _
  · intro l n
    obtain ⟨c, k, rfl⟩ := exists_lat l
    exact P.uk_eq c k n ▸ R.uk_real c _
  · exact fun d n => P.wq_eq 0 d n ▸ R.wq_real 0 _
  · exact fun d n => P.wqr_eq 0 d n ▸ R.wqr_real 0 _
  · exact fun d n => P.wkr_eq 0 d n ▸ R.wkr_real 0 _

attribute [local instance] Finite.facts_blocks Finite.facts_whole

theorem agree : Cert.algebraic_KernelIdeal_ReferenceIdeal_pre_scores_finite_KernelIdeal := fun m g m' g' pre L =>
  ⟨ReferenceIdeal.Value.res_main_v31 m' 0,
    (θ_run KernelIdeal.defs _ _).mono
      (fun r h c => And.intro ((h.1 c).1.trans (result_eq (Finite.scoresReal_of_pre m pre) L c)) (h.1 c).2)
      (KernelIdeal.Run.run_claim m g),
    (θ_run ReferenceIdeal.defs _ _).mono (fun r h => h 0) (ReferenceIdeal.Value.run m' g')⟩

theorem frame_kernelIdeal_pre : Cert.quiescent_KernelIdeal_pre_scores_finite_KernelIdeal := fun m g _ =>
  frame_kernelIdeal m g trivial

theorem frame_reference_pre : Cert.quiescent_ReferenceIdeal_pre_scores_finite_ReferenceIdeal := fun m g _ =>
  frame_reference m g trivial

end Claim

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Finite.facts_blocks, Finite.facts_whole,
    frame_kernel, frame_kernelIdeal, frame_kernelIdeal_pre, frame_reference, frame_reference_pre, scale_named, agree⟩

end Cert.Proof

end
